-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_tame_KernelIdeal [hPre_rows_tame_KernelIdeal : Cert.Pre_rows_tame_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_rows_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_rows_tame_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_tame_ReferenceIdeal [hPre_rows_tame_ReferenceIdeal : Cert.Pre_rows_tame_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_rows_tame_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_rows_tame_KernelIdeal [hKernelIdeal : Cert.KernelIdeal.Facts] [hPre_rows_tame_KernelIdeal : Cert.Pre_rows_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_tame_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_tame_ReferenceIdeal [hReferenceIdeal : Cert.ReferenceIdeal.Facts] [hPre_rows_tame_ReferenceIdeal : Cert.Pre_rows_tame_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_tame_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_rows_tame_KernelIdeal [hKernelIdeal : Cert.KernelIdeal.Facts] [hReferenceIdeal : Cert.ReferenceIdeal.Facts] [hPre_rows_tame_KernelIdeal : Cert.Pre_rows_tame_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_tame_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_rows_tame_KernelIdeal : Cert.Pre_rows_tame_KernelIdeal.Facts) (hPre_rows_tame_ReferenceIdeal : Cert.Pre_rows_tame_ReferenceIdeal.Facts),
    quiescent_Kernel (hKernel := hKernel)
    ∧ quiescent_KernelIdeal (hKernelIdeal := hKernelIdeal)
    ∧ quiescent_KernelIdeal_pre_rows_tame_KernelIdeal (hKernelIdeal := hKernelIdeal) (hPre_rows_tame_KernelIdeal := hPre_rows_tame_KernelIdeal)
    ∧ quiescent_ReferenceIdeal (hReferenceIdeal := hReferenceIdeal)
    ∧ quiescent_ReferenceIdeal_pre_rows_tame_ReferenceIdeal (hReferenceIdeal := hReferenceIdeal) (hPre_rows_tame_ReferenceIdeal := hPre_rows_tame_ReferenceIdeal)
    ∧ preserves_Kernel_KernelIdeal
    ∧ algebraic_KernelIdeal_ReferenceIdeal_pre_rows_tame_KernelIdeal (hKernelIdeal := hKernelIdeal) (hReferenceIdeal := hReferenceIdeal) (hPre_rows_tame_KernelIdeal := hPre_rows_tame_KernelIdeal)
-- ==== Pre_rows_tame_KernelIdeal.lean ====
abbrev S1024x4096 : Shape := ⟨2, ![1024, 4096]⟩
abbrev S4096x512 : Shape := ⟨2, ![4096, 512]⟩
abbrev S1 : Shape := ⟨1, ![1]⟩
abbrev S_ : Shape := ⟨0, ![]⟩
abbrev S1024 : Shape := ⟨1, ![1024]⟩
abbrev S512 : Shape := ⟨1, ![512]⟩

class Facts : Prop where
  natLt_8_32 : 8 < 32
  reducesTo_S1024x4096_S1024_d1 : S1024x4096.ReducesTo [1] S1024
  h_S_ : 0 < S_.numel
  bcast_S_S1024 : S_.BroadcastsInDim S1024 (![] : Fin 0 → Fin S1024.rank)
  reducesTo_S4096x512_S512_d0 : S4096x512.ReducesTo [0] S512
  bcast_S_S512 : S_.BroadcastsInDim S512 (![] : Fin 0 → Fin S512.rank)

variable [Facts]

def fn {F : FTy → Type} [FloatOps F] (main_arg0 : IVec S1024x4096 8) (main_arg1 : IVec S4096x512 8) (main_arg2 : FVec F S1 .f32) (main_arg3 : FVec F S1 .f32) : IVec S1024 1 × IVec S512 1 :=
  let main_v0 : IVec S1024x4096 32 := (extsi 32 · natLt_8_32) main_arg0
  let main_v1 : IVec S4096x512 32 := (extsi 32 · natLt_8_32) main_arg1
  let main_v2 : IVec S1024x4096 32 := muli main_v0 main_v0
  let main_c : IVec S_ 32 := constantI S_ 32 0#32
  let main_v3 : IVec S1024 32 := (fun x v => Host.reduce IntOp.addi x v reducesTo_S1024x4096_S1024_d1 h_S_) main_v2 main_c
  let main_c_0 : IVec S_ 32 := constantI S_ 32 16777216#32
  let main_v4 : IVec S1024 32 := broadcastInDim S1024 ![] bcast_S_S1024 main_c_0
  let main_v5 : IVec S1024 1 := cmpi .slt main_v3 main_v4
  let main_v6 : IVec S4096x512 32 := muli main_v1 main_v1
  let main_c_1 : IVec S_ 32 := constantI S_ 32 0#32
  let main_v7 : IVec S512 32 := (fun x v => Host.reduce IntOp.addi x v reducesTo_S4096x512_S512_d0 h_S_) main_v6 main_c_1
  let main_c_2 : IVec S_ 32 := constantI S_ 32 16777216#32
  let main_v8 : IVec S512 32 := broadcastInDim S512 ![] bcast_S_S512 main_c_2
  let main_v9 : IVec S512 1 := cmpi .slt main_v7 main_v8
  (main_v5, main_v9)
-- ==== Pre_rows_tame_ReferenceIdeal.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩
abbrev S4096 : Shape := ⟨1, ![4096]⟩
abbrev S2048 : Shape := ⟨1, ![2048]⟩

class Facts : Prop where
  natLt_8_32 : 8 < 32
  reducesTo_S4096x4096_S4096_d1 : S4096x4096.ReducesTo [1] S4096
  h_S_ : 0 < S_.numel
  bcast_S_S4096 : S_.BroadcastsInDim S4096 (![] : Fin 0 → Fin S4096.rank)
  reducesTo_S4096x2048_S2048_d0 : S4096x2048.ReducesTo [0] S2048
  bcast_S_S2048 : S_.BroadcastsInDim S2048 (![] : Fin 0 → Fin S2048.rank)

variable [Facts]

def fn {F : FTy → Type} [FloatOps F] (main_arg0 : IVec S4096x4096 8) (main_arg1 : IVec S4096x2048 8) (main_arg2 : FVec F S1 .f32) (main_arg3 : FVec F S1 .f32) : IVec S4096 1 × IVec S2048 1 :=
  let main_v0 : IVec S4096x4096 32 := (extsi 32 · natLt_8_32) main_arg0
  let main_v1 : IVec S4096x2048 32 := (extsi 32 · natLt_8_32) main_arg1
  let main_v2 : IVec S4096x4096 32 := muli main_v0 main_v0
  let main_c : IVec S_ 32 := constantI S_ 32 0#32
  let main_v3 : IVec S4096 32 := (fun x v => Host.reduce IntOp.addi x v reducesTo_S4096x4096_S4096_d1 h_S_) main_v2 main_c
  let main_c_0 : IVec S_ 32 := constantI S_ 32 16777216#32
  let main_v4 : IVec S4096 32 := broadcastInDim S4096 ![] bcast_S_S4096 main_c_0
  let main_v5 : IVec S4096 1 := cmpi .slt main_v3 main_v4
  let main_v6 : IVec S4096x2048 32 := muli main_v1 main_v1
  let main_c_1 : IVec S_ 32 := constantI S_ 32 0#32
  let main_v7 : IVec S2048 32 := (fun x v => Host.reduce IntOp.addi x v reducesTo_S4096x2048_S2048_d0 h_S_) main_v6 main_c_1
  let main_c_2 : IVec S_ 32 := constantI S_ 32 16777216#32
  let main_v8 : IVec S2048 32 := broadcastInDim S2048 ![] bcast_S_S2048 main_c_2
  let main_v9 : IVec S2048 1 := cmpi .slt main_v7 main_v8
  (main_v5, main_v9)
-- ==== Kernel.lean ====
abbrev S1024x4096 : Shape := ⟨2, ![1024, 4096]⟩
abbrev S4096x512 : Shape := ⟨2, ![4096, 512]⟩
abbrev S1 : Shape := ⟨1, ![1]⟩
abbrev S4x1024x512 : Shape := ⟨3, ![4, 1024, 512]⟩
abbrev S2 : Shape := ⟨1, ![2]⟩
abbrev S4 : Shape := ⟨1, ![4]⟩
abbrev S7 : Shape := ⟨1, ![7]⟩
abbrev S_ : Shape := ⟨0, ![]⟩
abbrev S1024x512 : Shape := ⟨2, ![1024, 512]⟩
abbrev S1x1024x512 : Shape := ⟨3, ![1, 1024, 512]⟩
abbrev S256x4096 : Shape := ⟨2, ![256, 4096]⟩
abbrev S256x512 : Shape := ⟨2, ![256, 512]⟩
abbrev S1x256x512 : Shape := ⟨3, ![1, 256, 512]⟩

abbrev nBuf : Space → Nat
  | .hbm => 5
  | .vmem => 6
  | .smem => 2
  | _ => 0

abbrev bufTy : (tb : Table) → Fin (tcTables nBuf tb) → BufTy
  | .hbm, ⟨0, _⟩ => ⟨S1024x4096, .i8⟩
  | .hbm, ⟨1, _⟩ => ⟨S4096x512, .i8⟩
  | .hbm, ⟨2, _⟩ => ⟨S1, .f32⟩
  | .hbm, ⟨3, _⟩ => ⟨S1, .f32⟩
  | .hbm, ⟨4, _⟩ => ⟨S4096x512, .f32⟩
  | .local _ .vmem, ⟨0, _⟩ => ⟨S1024x4096, .i8⟩
  | .local _ .vmem, ⟨1, _⟩ => ⟨S4096x512, .i8⟩
  | .local _ .vmem, ⟨2, _⟩ => ⟨S1024x4096, .i8⟩
  | .local _ .vmem, ⟨3, _⟩ => ⟨S1024x4096, .i8⟩
  | .local _ .vmem, ⟨4, _⟩ => ⟨S1024x4096, .i8⟩
  | .local _ .vmem, ⟨5, _⟩ => ⟨S4x1024x512, .f32⟩
  | .local _ .smem, ⟨0, _⟩ => ⟨S1, .f32⟩
  | .local _ .smem, ⟨1, _⟩ => ⟨S1, .f32⟩
  | _, _ => ⟨S1024x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_17 : BitVec 32 := 1#32
  let v31 : BitVec 32 := Scalar.muli v14 c1_i32_17
  let v32 : BitVec 32 := Scalar.addi c0_i32_18 v31
  v32.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_20 : BitVec 32 := 1#32
  let v33 : BitVec 32 := Scalar.muli v25 c1_i32_20
  let v34 : BitVec 32 := Scalar.addi c0_i32_21 v33
  v34.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_25 : BitVec 32 := 1#32
  let v37 : BitVec 32 := Scalar.muli v25 c1_i32_25
  let v38 : BitVec 32 := Scalar.addi c0_i32_26 v37
  v38.toNat
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_29 : BitVec 32 := 1#32
  let v43 : BitVec 32 := Scalar.muli v14 c1_i32_29
  let v44 : BitVec 32 := Scalar.addi c0_i32_30 v43
  v44.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v54 : BitVec 32 := Scalar.muli v2 c1024_i32
  let c0_i32_43 : BitVec 32 := 0#32
  ![v54.toNat, 0]
def k0_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_52 : BitVec 32 := 1#32
  let v75 : BitVec 32 := Scalar.muli v25 c1_i32_52
  let v76 : BitVec 32 := Scalar.addi c0_i32_53 v75
  v76.toNat
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_60 : BitVec 32 := 1#32
  let v83 : BitVec 32 := Scalar.muli v25 c1_i32_60
  let v84 : BitVec 32 := Scalar.addi c0_i32_61 v83
  v84.toNat
def k0_dev7 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_71 : BitVec 32 := 1#32
  let v95 : BitVec 32 := Scalar.muli v14 c1_i32_71
  let v96 : BitVec 32 := Scalar.addi c0_i32_72 v95
  v96.toNat
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_77 : BitVec 32 := 1#32
  let v103 : BitVec 32 := Scalar.muli v14 c1_i32_77
  let v104 : BitVec 32 := Scalar.addi c0_i32_78 v103
  v104.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1024_i32_82 : BitVec 32 := 1024#32
  let v111 : BitVec 32 := Scalar.muli v14 c1024_i32_82
  let c0_i32_93 : BitVec 32 := 0#32
  ![v111.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1024_i32_96 : BitVec 32 := 1024#32
  let v128 : BitVec 32 := Scalar.muli v25 c1024_i32_96
  let c0_i32_107 : BitVec 32 := 0#32
  ![v128.toNat, 0]
def k0_off4 (d0 : Dev nD) (c0_i32_126 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_110 : BitVec 32 := 2#32
  let v145 : BitVec 32 := Scalar.addi v2 c2_i32_110
  let c4_i32_111 : BitVec 32 := 4#32
  let c0_i32_112 : BitVec 32 := 0#32
  let v146 : BitVec 1 := Scalar.cmpi .eq c4_i32_111 c0_i32_112
  let c1_i32_113 : BitVec 32 := 1#32
  let v147 : BitVec 32 := Scalar.select v146 c1_i32_113 c4_i32_111
  let v148 : BitVec 32 := Scalar.remsi v145 v147
  let c0_i32_115 : BitVec 32 := 0#32
  let v150 : BitVec 1 := Scalar.cmpi .slt v148 c0_i32_115
  let c0_i32_116 : BitVec 32 := 0#32
  let v151 : BitVec 1 := Scalar.cmpi .slt v147 c0_i32_116
  let v152 : BitVec 1 := Scalar.xori v150 v151
  let c0_i32_114 : BitVec 32 := 0#32
  let v149 : BitVec 1 := Scalar.cmpi .ne v148 c0_i32_114
  let v153 : BitVec 1 := Scalar.andi v152 v149
  let v154 : BitVec 32 := Scalar.addi v148 v147
  let v155 : BitVec 32 := Scalar.select v153 v154 v148
  let c1024_i32_125 : BitVec 32 := 1024#32
  let v162 : BitVec 32 := Scalar.muli v155 c1024_i32_125
  let v163 : BitVec 32 := Scalar.addi v162 c0_i32_126
  let c0_i32_137 : BitVec 32 := 0#32
  ![v163.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Product.lean ====
/-
One entry of the product: a row of bytes against a column of bytes, scaled, negative results cut to zero.

The matrix unit's integer product is known to be the exact sum only where the magnitudes of the summands total less than
2²⁴. Where the squares of the row's bytes, and those of the column's, sum to less than 2²⁴, they do (Cauchy and Schwarz),
and an entry of a kernel's block is the exact integer sum, times the scale, cut at zero. This module says so of a block of
any number of rows.
-/
module

public import Idealize.ShloMosaic.PureOps
public import Idealize.ShloMosaic.PureOps.Ideal
public import Idealize.ShloMosaic.Lib.IntMxu
public import Idealize.ShloMosaic.Lib.StackMember
public import Idealize.ShloMosaic.Lib.ValueIdx
public import Mathlib.Algebra.Order.BigOperators.Ring.Finset

@[expose] public section

noncomputable section

namespace Cert.Product

open Idealize.ShloMosaic Idealize.ShloMosaic.ValueIdx

/-- The squares of the bytes, read signed, sum to less than 2²⁴. -/
def Tame (a : Fin 4096 → BitVec 8) : Prop := ∑ k, (a k).toInt * (a k).toInt < 2 ^ 24

/-- The sum of the products of a row and a column, an integer. -/
def dot (a b : Fin 4096 → BitVec 8) : ℤ := ∑ k, (a k).toInt * (b k).toInt

/-- An entry of the result: the exact sum times the scale, and zero where that is negative. -/
def entry (a b : Fin 4096 → BitVec 8) (s : EReal) : EReal := max ((((dot a b : ℤ) : ℝ) : EReal) * s) 0

/-- Of a tame row and a tame column the magnitudes of the products total less than 2²⁴. -/
theorem magnitudes_lt {a b : Fin 4096 → BitVec 8} (ha : Tame a) (hb : Tame b) :
    ∑ k, ((a k).toInt * (b k).toInt).natAbs < 2 ^ 24 := by
  have hcs := Finset.sum_mul_sq_le_sq_mul_sq Finset.univ (fun k => |(a k).toInt|) (fun k => |(b k).toInt|)
  simp only [sq_abs, pow_two, abs_mul_abs_self] at hcs
  have hz : ((∑ k, ((a k).toInt * (b k).toInt).natAbs : ℕ) : ℤ) = ∑ k, |(a k).toInt| * |(b k).toInt| := by
    push_cast
    exact Finset.sum_congr rfl fun k _ => abs_mul _ _
  have h0 : 0 ≤ ∑ k, (a k).toInt * (a k).toInt := Finset.sum_nonneg fun k _ => mul_self_nonneg _
  have h1 : (∑ k, |(a k).toInt| * |(b k).toInt|) * (∑ k, |(a k).toInt| * |(b k).toInt|) < 2 ^ 24 * 2 ^ 24 :=
    lt_of_le_of_lt hcs (lt_of_le_of_lt (mul_le_mul_of_nonneg_left hb.le h0) (mul_lt_mul_of_pos_right ha (by norm_num)))
  have h2 : ((∑ k, ((a k).toInt * (b k).toInt).natAbs : ℕ) : ℤ) < 2 ^ 24 := by
    rw [hz]
    exact lt_of_mul_self_lt_mul_self₀ (by norm_num) h1
  exact_mod_cast h2

/-- A sum over the contracted positions of a plain product, as a sum over the row's coordinates. -/
theorem sum_contr {A : Type} [AddCommMonoid A] (M N : Nat) (r : Fin M) (j : Fin N) (f : (⟨2, ![M, 4096]⟩ : Shape).Idx → (⟨2, ![4096, N]⟩ : Shape).Idx → A) :
    ∑ k : (DotDims.plain M 4096 N).contr.Idx, f ((DotDims.plain M 4096 N).lhsIdx (ix2 r j) k) ((DotDims.plain M 4096 N).rhsIdx (ix2 r j) k)
      = ∑ k : Fin 4096, f (ix2 r k) (ix2 k j) := by
  rw [← Equiv.sum_comp (contrEquiv1 (DotDims.plain M 4096 N) 4096 rfl rfl).symm]
  refine Finset.sum_congr rfl fun c _ => ?_
  have hc := contrEquiv1_symm_val (DotDims.plain M 4096 N) 4096 rfl rfl c
  refine congrArg₂ f (funext fun ax => Fin.ext ?_) (funext fun ax => Fin.ext ?_)
  · match ax with
    | ⟨0, _⟩ => rfl
    | ⟨1, _⟩ => exact hc
  · match ax with
    | ⟨0, _⟩ => exact hc
    | ⟨1, _⟩ => rfl

/-- The matrix unit's word at a tame row and a tame column, read signed, is the exact sum. -/
theorem word (M N : Nat) (X : IVec ⟨2, ![M, 4096]⟩ 8) (W : IVec ⟨2, ![4096, N]⟩ 8) (r : Fin M) (j : Fin N)
    (hX : Tame fun k => X (ix2 r k)) (hW : Tame fun k => W (ix2 k j)) :
    (matmulI8 IntMxuNumerics.v7x (DotDims.plain M 4096 N) X W (constantI _ 32 0#32) (ix2 r j)).toInt
      = dot (fun k => X (ix2 r k)) (fun k => W (ix2 k j)) := by
  have hm := magnitudes_lt hX hW
  rw [matmulI8_toInt IntMxuNumerics.v7x (DotDims.plain M 4096 N) X W _ (ix2 r j) rfl ?_]
  · exact sum_contr M N r j fun x w => (X x).toInt * (W w).toInt
  · refine Nat.le_of_lt_succ (lt_of_eq_of_lt (?_ : _ = _) hm)
    exact sum_contr M N r j fun x w => ((X x).toInt * (W w).toInt).natAbs

/-- An entry of a kernel's block, of any number of rows: product, scale, cut at zero. -/
theorem block_entry (M N : Nat) (X : IVec ⟨2, ![M, 4096]⟩ 8) (W : IVec ⟨2, ![4096, N]⟩ 8) (s : Ideal .f32) (r : Fin M) (j : Fin N)
    (hX : Tame fun k => X (ix2 r k)) (hW : Tame fun k => W (ix2 k j)) :
    maximumf (mulf (sitofp .f32 (matmulI8 IntMxuNumerics.v7x (DotDims.plain M 4096 N) X W (constantI _ 32 0#32)))
        (broadcast ⟨2, ![M, N]⟩ s)) (broadcast ⟨2, ![M, N]⟩ (Scalar.ofBits (F := Ideal) .f32 0x00000000#32)) (ix2 r j)
      = entry (fun k => X (ix2 r k)) (fun k => W (ix2 k j)) s := by
  have hw := word M N X W r j hX hW
  rw [maximumf_apply, mulf_apply]
  show max ((((matmulI8 IntMxuNumerics.v7x (DotDims.plain M 4096 N) X W (constantI _ 32 0#32) (ix2 r j)).toInt : ℝ) : EReal) * s)
    (Ideal.ofBits .f32 0x00000000#32) = _
  rw [hw, Ideal.ofBits_zero_f32]
  rfl

/-- A sum of products of integers, taken over the extended reals, is the integer sum. -/
theorem sum_products (a b : Fin 4096 → BitVec 8) :
    ∑ k, ((((a k).toInt : ℝ) : EReal) * (((b k).toInt : ℝ) : EReal)) = (((dot a b : ℤ) : ℝ) : EReal) := by
  unfold dot
  push_cast
  induction (Finset.univ : Finset (Fin 4096)) using Finset.cons_induction with
  | empty => simp
  | cons x s hx ih => rw [Finset.sum_cons, Finset.sum_cons, ih, EReal.coe_add, EReal.coe_mul]

end Cert.Product

end
-- ==== Proof.Bounds.lean ====
/-
What the precondition says: in each row of a device's part of `x`, and in each column of its part of `w`, the squares of
the bytes sum to less than 2²⁴. The predicate computes these sums in 32-bit words, where they do not wrap: 4096 squares of
at most 2¹⁴ each.
-/
module

public import proofs.«01_k».proof.Pre_rows_tame_KernelIdeal
public import proofs.«01_k».proof.Proof.Product
public import Idealize.ShloMosaic.PureOps.Reduce

@[expose] public section

noncomputable section

namespace Cert.Product

open Idealize.ShloMosaic Idealize.ShloMosaic.ValueIdx

/-- A sum of words that hold integers holds the sum of the integers. -/
theorem fold_words {n : Nat} (z : Fin n → ℤ) (S : Finset (Fin n)) :
    S.fold IntOp.addi (0#32) (fun k => BitVec.ofInt 32 (z k)) = BitVec.ofInt 32 (∑ k ∈ S, z k) := by
  induction S using Finset.cons_induction with
  | empty => rfl
  | cons x s hx ih => rw [Finset.fold_cons, ih, Finset.sum_cons, BitVec.ofInt_add]; rfl

/-- The word of the square of a byte that is widened first. -/
theorem square_word (x : BitVec 8) : IntOp.muli (x.signExtend 32) (x.signExtend 32) = BitVec.ofInt 32 (x.toInt * x.toInt) := by
  rw [BitVec.ofInt_mul]; rfl

/-- The sum of the squares of 4096 bytes is at most 2²⁶. -/
theorem squares_le (a : Fin 4096 → BitVec 8) : ∑ k, (a k).toInt * (a k).toInt ≤ 2 ^ 26 := by
  have h : ∀ k ∈ (Finset.univ : Finset (Fin 4096)), (a k).toInt * (a k).toInt ≤ 2 ^ 14 := fun k _ => by
    have h1 := BitVec.toInt_lt (x := a k)
    have h2 := BitVec.le_toInt (x := a k)
    norm_num at h1 h2 ⊢
    nlinarith
  refine (Finset.sum_le_card_nsmul _ _ _ h).trans ?_
  rw [Finset.card_univ, Fintype.card_fin]
  norm_num

/-- Where the word of the sum of the squares compares below 2²⁴, the bytes are tame. -/
theorem tame_of_word (a : Fin 4096 → BitVec 8)
    (h : IntOp.cmpi .slt (Finset.univ.fold IntOp.addi (0#32) fun k => IntOp.muli ((a k).signExtend 32) ((a k).signExtend 32)) 16777216#32 = 1#1) :
    Tame a := by
  simp only [square_word] at h
  rw [fold_words] at h
  have h0 : 0 ≤ ∑ k, (a k).toInt * (a k).toInt := Finset.sum_nonneg fun k _ => mul_self_nonneg _
  have h1 := squares_le a
  have hi : (BitVec.ofInt 32 (∑ k, (a k).toInt * (a k).toInt)).toInt = ∑ k, (a k).toInt * (a k).toInt := by
    rw [BitVec.toInt_ofInt]
    apply Int.bmod_eq_of_le <;> omega
  have hs : (BitVec.ofInt 32 (∑ k, (a k).toInt * (a k).toInt)).slt 16777216#32 = true := by
    rcases hb : (BitVec.ofInt 32 (∑ k, (a k).toInt * (a k).toInt)).slt 16777216#32 with _ | _
    · exact absurd h (by simp [IntOp.cmpi, hb])
    · rfl
  rw [BitVec.slt_iff_toInt_lt, hi] at hs
  exact hs

section Device

open Cert.Pre_rows_tame_KernelIdeal

variable [Facts] (X : IVec S1024x4096 8) (W : IVec S4096x512 8) (s t : FVec Ideal S1 .f32)

/-- The predicate's first result says that each row of `x` is tame. -/
theorem rows_tame (h : (fn (F := Ideal) X W s t).1 = fun _ => 1#1) (r : Fin 1024) : Tame fun k => X (ix2 r k) := by
  have hR : S1024x4096.Reduces [1] S1024 := by decide
  have hl : ∀ k : Fin 4096, hR.lift (ix1 r) k = ix2 r k := fun k => funext fun b => by
    match b with
    | ⟨0, _⟩ => rfl
    | ⟨1, _⟩ => rfl
  have hk := Host.reduce_eq_fold_single IntOp.addi (muli (extsi 32 X Facts.natLt_8_32) (extsi 32 X Facts.natLt_8_32))
    (constantI S_ 32 0#32) Facts.reducesTo_S1024x4096_S1024_d1 hR Facts.h_S_ (ix1 r)
  have hf : (muli (extsi 32 X Facts.natLt_8_32) (extsi 32 X Facts.natLt_8_32)) ∘ hR.lift (ix1 r)
      = fun k => IntOp.muli ((X (ix2 r k)).signExtend 32) ((X (ix2 r k)).signExtend 32) := funext fun k =>
    congrArg (muli (extsi 32 X Facts.natLt_8_32) (extsi 32 X Facts.natLt_8_32)) (hl k)
  have hr : IntOp.cmpi .slt (Host.reduce IntOp.addi (muli (extsi 32 X Facts.natLt_8_32) (extsi 32 X Facts.natLt_8_32))
    (constantI S_ 32 0#32) Facts.reducesTo_S1024x4096_S1024_d1 Facts.h_S_ (ix1 r)) 16777216#32 = 1#1 := by
    simp only [fn] at h
    have hi := congrFun h (ix1 r)
    simp only [cmpi, broadcastInDim, constantI] at hi
    exact hi
  rw [hk, hf] at hr
  exact tame_of_word (fun k => X (ix2 r k)) hr

/-- The predicate's second result says that each column of `w` is tame. -/
theorem columns_tame (h : (fn (F := Ideal) X W s t).2 = fun _ => 1#1) (j : Fin 512) : Tame fun k => W (ix2 k j) := by
  have hR : S4096x512.Reduces [0] S512 := by decide
  have hl : ∀ k : Fin 4096, hR.lift (ix1 j) k = ix2 k j := fun k => funext fun b => by
    match b with
    | ⟨0, _⟩ => rfl
    | ⟨1, _⟩ => rfl
  have hk := Host.reduce_eq_fold_single IntOp.addi (muli (extsi 32 W Facts.natLt_8_32) (extsi 32 W Facts.natLt_8_32))
    (constantI S_ 32 0#32) Facts.reducesTo_S4096x512_S512_d0 hR Facts.h_S_ (ix1 j)
  have hf : (muli (extsi 32 W Facts.natLt_8_32) (extsi 32 W Facts.natLt_8_32)) ∘ hR.lift (ix1 j)
      = fun k => IntOp.muli ((W (ix2 k j)).signExtend 32) ((W (ix2 k j)).signExtend 32) := funext fun k =>
    congrArg (muli (extsi 32 W Facts.natLt_8_32) (extsi 32 W Facts.natLt_8_32)) (hl k)
  have hr : IntOp.cmpi .slt (Host.reduce IntOp.addi (muli (extsi 32 W Facts.natLt_8_32) (extsi 32 W Facts.natLt_8_32))
    (constantI S_ 32 0#32) Facts.reducesTo_S4096x512_S512_d0 Facts.h_S_ (ix1 j)) 16777216#32 = 1#1 := by
    simp only [fn] at h
    have hi := congrFun h (ix1 j)
    simp only [cmpi, broadcastInDim, constantI] at hi
    exact hi
  rw [hk, hf] at hr
  exact tame_of_word (fun k => W (ix2 k j)) hr

end Device

end Cert.Product

end
-- ==== Proof.Protocol.lean ====
/-
The exchange between the four devices: who tells whom what.

The devices stand in a ring. Each keeps its own rows of `x`, sends them whole to both neighbours, and each
neighbour passes two quarters of what it received on to the device opposite. Before anything is sent, each device tells
both neighbours, on the runtime's barrier semaphore, that its landing buffers may be written.

A KIND names one of a device's semaphores that another device (or its own copy) raises: the barrier, the two send and
the two receive semaphores of the first hop, the four send and the four receive semaphores of the second. Every kind is
used for one round. This module gives the kinds, the buffers' contents, what each raise hands over, the schedule the
rounds library takes, what a device owes at the start and in which order it may wait.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.StableHlo.CollectiveRules
public import Idealize.ShloMosaic.Lib.Memref
public import Idealize.ShloMosaic.Lib.VecWindow
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's rounds, the exchange's, and the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the exchange's rounds live. -/
def EX : Emb UB (MT nD τ sig Unit (Elt F) ℕ UU ℕ) := (Emb.inl : Emb UB (UB × Counters)).trans embR
instance EX_landsIn : (EX : Emb UB 𝕄).LandsIn (upEmb : UEmb _ 𝕄) := by unfold EX; infer_instance

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## The ring -/

set_option backward.proofsInPublic true in
/-- The next device, the one after it, the previous one. -/
def right (c : Dev nD) : Dev nD := ⟨(c.val + 1) % 4, Nat.mod_lt _ (by decide)⟩
set_option backward.proofsInPublic true in
def opp (c : Dev nD) : Dev nD := ⟨(c.val + 2) % 4, Nat.mod_lt _ (by decide)⟩
set_option backward.proofsInPublic true in
def left (c : Dev nD) : Dev nD := ⟨(c.val + 3) % 4, Nat.mod_lt _ (by decide)⟩

theorem left_right (c : Dev nD) : left (right c) = c := by revert c; decide
theorem right_left (c : Dev nD) : right (left c) = c := by revert c; decide
theorem opp_right (c : Dev nD) : opp (right c) = left c := by revert c; decide
theorem opp_left (c : Dev nD) : opp (left c) = right c := by revert c; decide

theorem dev1_eq (c : Dev nD) : (⟨k0_dev1 c, k0_dev1_lt c⟩ : Dev nD) = left c := by revert c; decide +kernel
theorem dev2_eq (c : Dev nD) : (⟨k0_dev2 c, k0_dev2_lt c⟩ : Dev nD) = right c := by revert c; decide +kernel
theorem dev3_eq (c : Dev nD) : (⟨k0_dev3 c, k0_dev3_lt c⟩ : Dev nD) = right c := by revert c; decide +kernel
theorem dev4_eq (c : Dev nD) : (⟨k0_dev4 c, k0_dev4_lt c⟩ : Dev nD) = left c := by revert c; decide +kernel
theorem dev5_eq (c : Dev nD) : (⟨k0_dev5 c, k0_dev5_lt c⟩ : Dev nD) = right c := by revert c; decide +kernel
theorem dev6_eq (c : Dev nD) : (⟨k0_dev6 c, k0_dev6_lt c⟩ : Dev nD) = right c := by revert c; decide +kernel
theorem dev7_eq (c : Dev nD) : (⟨k0_dev7 c, k0_dev7_lt c⟩ : Dev nD) = left c := by revert c; decide +kernel
theorem dev8_eq (c : Dev nD) : (⟨k0_dev8 c, k0_dev8_lt c⟩ : Dev nD) = left c := by revert c; decide +kernel

/-! ## The buffers -/

abbrev xA : Memref sig .tc .hbm S1024x4096 .i8 := Memref.whole main_arg0
abbrev wA : Memref sig .tc .hbm S4096x512 .i8 := Memref.whole main_arg1
abbrev oA : Memref sig .tc .hbm S4096x512 .f32 := Memref.whole main_v1
abbrev xM : Memref sig .tc .vmem S1024x4096 .i8 := Memref.whole cc0_scratch0
abbrev wM : Memref sig .tc .vmem S4096x512 .i8 := Memref.whole cc0_scratch1
abbrev lM : Memref sig .tc .vmem S1024x4096 .i8 := Memref.whole cc0_scratch2
abbrev rM : Memref sig .tc .vmem S1024x4096 .i8 := Memref.whole cc0_scratch3
abbrev dM : Memref sig .tc .vmem S1024x4096 .i8 := Memref.whole cc0_scratch4
abbrev gM : Memref sig .tc .vmem S4x1024x512 .f32 := Memref.whole cc0_scratch5

/-- Quarter `j` of a block of 1024 rows: rows `256 j` to `256 j + 255`. -/
theorem quarter_inb (j : Fin 4) : ∀ a, (![256 * j.val, 0] : Fin 2 → ℕ) a + S256x4096.size a ≤ S1024x4096.size a := by
  revert j; decide
abbrev quarter (j : Fin 4) : Rect S1024x4096 := Rect.unit (s := S1024x4096) ![256 * j.val, 0] S256x4096.size (quarter_inb j)
abbrev qM {sp : Space} (M : Memref sig .tc sp S1024x4096 .i8) (j : Fin 4) : Memref sig .tc sp S256x4096 .i8 :=
  M.slice (quarter j) (fun _ => rfl)
/-- The quarter's part of contents of the block. -/
def rowsOf (X : S1024x4096.Idx → Elt F .i8) (j : Fin 4) : S256x4096.Idx → Elt F .i8 := fun i => X ((quarter j).emb i)

/-- What device `c`'s rows of `x` and columns of `w` hold at launch. -/
def xin (c : Dev nD) : S1024x4096.Idx → Elt F .i8 := m ((c : Thread nD τ).loc main_arg0)
def win (c : Dev nD) : S4096x512.Idx → Elt F .i8 := m ((c : Thread nD τ).loc main_arg1)

/-! ## The kinds of semaphores -/

/-- Barrier; first hop, sent and received; second hop, sent and received. -/
inductive Kd
  | bar
  | snd (i : Fin 2)
  | rcv (i : Fin 2)
  | fsd (j : Fin 4)
  | frc (j : Fin 4)
  deriving DecidableEq

/-- The kinds, listed. -/
abbrev kinds : List Kd :=
  [.bar, .snd 0, .snd 1, .rcv 0, .rcv 1, .fsd 0, .fsd 1, .fsd 2, .fsd 3, .frc 0, .frc 1, .frc 2, .frc 3]

instance : Fintype Kd := ⟨kinds.toFinset, fun k => List.mem_toFinset.mpr <| by
  cases k with
  | bar => decide
  | snd i | rcv i => revert i; decide
  | fsd j | frc j => revert j; decide⟩

set_option backward.proofsInPublic true in
/-- The semaphore of a kind. -/
def xsem : Kd → SemLoc sig
  | .bar => .reg ((SemArray.scalar (sig.barrier 0 rfl) : Sems sig S_).sem)
  | .snd i => .dma ⟨4 + i.val, by have := i.isLt; show _ < 23; omega⟩
  | .rcv i => .dma ⟨6 + i.val, by have := i.isLt; show _ < 23; omega⟩
  | .fsd j => .dma ⟨8 + j.val, by have := j.isLt; show _ < 23; omega⟩
  | .frc j => .dma ⟨12 + j.val, by have := j.isLt; show _ < 23; omega⟩

theorem xsem_inj : Function.Injective xsem := by
  have : ∀ a b : Kd, xsem a = xsem b → a = b := by decide
  exact fun a b h => this a b h

abbrev cell (c : Dev nD) (k : Kd) : GSem nD τ sig := ((c : Thread nD τ), xsem k)

theorem cell_inj {c c' : Dev nD} {k k' : Kd} (h : cell c k = cell c' k') : c = c' ∧ k = k' :=
  ⟨congrArg (fun g : GSem nD τ sig => g.1.1) h, xsem_inj (congrArg Prod.snd h)⟩

/-- The kind of a semaphore, if it has one. -/
def kindOf (s : SemLoc sig) : Option Kd := (Finset.univ.filter fun k => xsem k = s).toList.head?

theorem kindOf_xsem (k : Kd) : kindOf (xsem k) = some k := by
  unfold kindOf
  rw [show (Finset.univ.filter fun k' => xsem k' = xsem k) = {k} from by
    ext k'; rw [Finset.mem_filter, Finset.mem_singleton]
    exact ⟨fun h => xsem_inj h.2, fun h => h ▸ ⟨Finset.mem_univ _, rfl⟩⟩, Finset.toList_singleton]
  rfl

theorem kindOf_some {s : SemLoc sig} {k : Kd} (h : kindOf s = some k) : s = xsem k := by
  have := List.mem_of_mem_head? (Option.mem_def.mpr h)
  rw [Finset.mem_toList, Finset.mem_filter] at this
  exact this.2.symm

/-! ## What is handed over -/

/-- A memref's elements, at any contents. -/
def anyOf (c : Dev nD) {sp : Space} {s : Shape} {e : EltTy} (M : Memref sig .tc sp s e) : sProp 𝕄 :=
  iprop(∃ X : s.Idx → Elt F e, owns (c : Thread nD τ) M fullShare X)

omit [FloatOps F] in
instance anyOf_storable (c : Dev nD) {sp : Space} {s : Shape} {e : EltTy} (M : Memref sig .tc sp s e) :
    BI.Storable (upEmb : UEmb _ 𝕄) (anyOf (F := F) c M) := by unfold anyOf; infer_instance

/-- What each duty of a kind hands device `c`. A barrier's duty `true` is the right neighbour's, `false` the left's. -/
def pay (c : Dev nD) : Kd → Bool → sProp 𝕄
  | .bar, true => iprop(anyOf (right c) lM ∗ anyOf (right c) (qM dM 0) ∗ anyOf (right c) (qM dM 1))
  | .bar, false => iprop(anyOf (left c) rM ∗ anyOf (left c) (qM dM 2) ∗ anyOf (left c) (qM dM 3))
  | .snd 0, _ => owns (c : Thread nD τ) xM fullShare.right.left (xin m c)
  | .snd 1, _ => owns (c : Thread nD τ) xM fullShare.right.right (xin m c)
  | .rcv 0, _ => owns (c : Thread nD τ) lM fullShare (xin m (left c))
  | .rcv 1, _ => owns (c : Thread nD τ) rM fullShare (xin m (right c))
  | .fsd 0, _ => owns (c : Thread nD τ) (qM lM 0) fullShare.right (rowsOf (xin m (left c)) 0)
  | .fsd 1, _ => owns (c : Thread nD τ) (qM lM 1) fullShare.right (rowsOf (xin m (left c)) 1)
  | .fsd 2, _ => owns (c : Thread nD τ) (qM rM 2) fullShare.right (rowsOf (xin m (right c)) 2)
  | .fsd 3, _ => owns (c : Thread nD τ) (qM rM 3) fullShare.right (rowsOf (xin m (right c)) 3)
  | .frc j, _ => owns (c : Thread nD τ) (qM dM j) fullShare (rowsOf (xin m (opp c)) j)

omit [FloatOps F] in
instance pay_storable (c : Dev nD) (k : Kd) (d : Bool) : BI.Storable (upEmb : UEmb _ 𝕄) (pay m c k d) := by
  unfold pay; split <;> infer_instance

/-- The units a whole block's copy and a quarter's are worth. -/
def NB : ℕ := (lM : Memref sig .tc .vmem S1024x4096 .i8).view.dmaCredit
def NQ : ℕ := (qM dM 0 : Memref sig .tc .vmem S256x4096 .i8).view.dmaCredit
theorem NB_pos : 0 < NB := View.dmaCredit_pos _ (by decide)
theorem NQ_pos : 0 < NQ := View.dmaCredit_pos _ (by decide)

/-- What one duty of a kind is worth, and a kind's duties. -/
def amt : Kd → ℕ
  | .bar => 1
  | .snd _ | .rcv _ => NB
  | .fsd _ | .frc _ => NQ
def dut : Kd → Finset Bool
  | .bar => Finset.univ
  | _ => {false}
/-- What a kind's round is worth. -/
def tot : Kd → ℕ
  | .bar => 2
  | k => amt k

theorem amt_pos (k : Kd) : 0 < amt k := by
  cases k <;> first | exact Nat.one_pos | exact NB_pos | exact NQ_pos

/-! ## The schedule -/

/-- One round, round 0, at every cell of a kind. -/
def Rd : Rounds.Schedule (GSem nD τ sig) Bool 𝕄 where
  duties g r := if r = 0 ∧ g.1.2 = .tc then ((kindOf g.2).map dut).getD ∅ else ∅
  unitless _ := False
  amount g _ _ := ((kindOf g.2).map amt).getD 1
  payload g _ d := match kindOf g.2 with
    | some k => pay m g.1.1 k d
    | none => iprop(emp)
  amount_pos g _ _ _ := by
    cases kindOf g.2 with
    | none => exact Nat.one_pos
    | some k => exact amt_pos k

omit [FloatOps F] in
instance Rd_payload_storable (g : GSem nD τ sig) (r : ℕ) (d : Bool) :
    BI.Storable (upEmb : UEmb _ 𝕄) ((Rd (F := F) m).payload g r d) := by
  show BI.Storable upEmb (match kindOf g.2 with | some k => pay m g.1.1 k d | none => iprop(emp))
  cases kindOf g.2 <;> dsimp only <;> infer_instance

section Tables
variable (c : Dev nD) (k : Kd)

omit [FloatOps F] in
theorem duties_at : (Rd (F := F) m).duties (cell c k) 0 = dut k := by
  dsimp only [Rd]; rw [if_pos ⟨rfl, rfl⟩, kindOf_xsem]; rfl
omit [FloatOps F] in
theorem duties_later (g : GSem nD τ sig) : ∀ r, 0 + 1 ≤ r → (Rd (F := F) m).duties g r = ∅ :=
  fun r hr => by dsimp only [Rd]; rw [if_neg fun h => by omega]
omit [FloatOps F] in
theorem amount_at (d : Bool) : (Rd (F := F) m).amount (cell c k) 0 d = amt k := by
  dsimp only [Rd]; rw [kindOf_xsem]; rfl
omit [FloatOps F] in
theorem payload_at (d : Bool) : (Rd (F := F) m).payload (cell c k) 0 d = pay m c k d := by
  dsimp only [Rd]; rw [kindOf_xsem]
omit [FloatOps F] in
theorem expect_at : (Rd (F := F) m).expect (cell c k) 0 = tot k := by
  unfold Schedule.expect Schedule.amountOf
  rw [duties_at, Finset.sum_congr rfl fun d _ => amount_at m c k d, Finset.sum_const, smul_eq_mul]
  cases k <;> first | rfl | exact Nat.one_mul _
theorem false_mem : false ∈ dut k := by revert k; decide

/-- What the wait for a kind's round yields. -/
def gain : Kd → sProp 𝕄
  | .bar => iprop(pay m c .bar false ∗ pay m c .bar true)
  | k => pay m c k false

omit [FloatOps F] in
theorem rest_at : bigSep ((Rd (F := F) m).duties (cell c k) 0 \ ∅) (fun d => (Rd (F := F) m).payload (cell c k) 0 d) = gain m c k := by
  rw [Finset.sdiff_empty, duties_at, bigSep_congr fun d _ => payload_at m c k d]
  cases k
  case bar =>
    show bigSep Finset.univ _ = _
    rw [bigSep_univ_eq_bigSepL [false, true] (by decide) (by decide), bigSepL_cons_cons, bigSepL_singleton]; rfl
  all_goals exact bigSep_singleton

end Tables

/-! ## Debts and levels -/

/-- Whom device `c` owes the duty `d` of kind `k`. -/
def tgt (c : Dev nD) : Kd × Bool → Dev nD
  | (.bar, true) => left c
  | (.bar, false) => right c
  | (.rcv 0, _) => right c
  | (.rcv 1, _) => left c
  | (.frc 0, _) => right c
  | (.frc 1, _) => right c
  | (.frc 2, _) => left c
  | (.frc 3, _) => left c
  | _ => c

/-- Who pays it to device `c`. -/
def src (c : Dev nD) : Kd × Bool → Dev nD
  | (.bar, true) => right c
  | (.bar, false) => left c
  | (.rcv 0, _) => left c
  | (.rcv 1, _) => right c
  | (.frc 0, _) => left c
  | (.frc 1, _) => left c
  | (.frc 2, _) => right c
  | (.frc 3, _) => right c
  | _ => c

theorem src_tgt : ∀ (c : Dev nD) (x : Kd × Bool), src (tgt c x) x = c := by decide
theorem tgt_src : ∀ (c : Dev nD) (x : Kd × Bool), tgt (src c x) x = c := by decide

/-- A list of debts of device `c`, as tallies; the first is the one paid next. -/
def owe (c : Dev nD) : List (Kd × Bool) → CellTallies nD τ sig Unit
  | [] => 0
  | x :: l => owe c l + tallyAt (cell (tgt c x) x.1) () (amt x.1)

/-- The debts at the start, in the order they are paid. -/
abbrev debts₃ : List (Kd × Bool) := [(.frc 2, false), (.frc 3, false)]
abbrev debts₂ : List (Kd × Bool) := (.frc 0, false) :: (.frc 1, false) :: debts₃
abbrev debts₁ : List (Kd × Bool) := (.rcv 0, false) :: (.rcv 1, false) :: debts₂
abbrev debts : List (Kd × Bool) := (.bar, true) :: (.bar, false) :: debts₁

def lvl : Kd → ℕ
  | .bar => 1
  | .rcv _ => 2
  | .frc _ => 3
  | _ => 0

def L (g : GSem nD τ sig) : Finset Unit := if g.1.2 = .tc then {()} else ∅
/-- Barrier first, then the first hop's receive semaphores, then the second's; every other semaphore below them. -/
def lv (g : GSem nD τ sig) (_ : Unit) : ℕ := ((kindOf g.2).map lvl).getD 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kd) : lv (cell c k) () = lvl k := by unfold lv; rw [kindOf_xsem]; rfl
theorem lv_none (c : Dev nD) (sm : SemLoc sig) (h : ∀ k, xsem k ≠ sm) : lv ((c : Thread nD τ), sm) () = 0 := by
  unfold lv
  cases hk : kindOf sm with
  | none => rfl
  | some k => exact absurd (kindOf_some hk).symm (h k)

theorem owe_pos {c : Dev nD} {l : List (Kd × Bool)} {g : GSem nD τ sig} {u : Unit} (h : 0 < owe c l g u) :
    ∃ x ∈ l, g = cell (tgt c x) x.1 := by
  induction l with
  | nil => exact absurd h (Nat.lt_irrefl 0)
  | cons x l ih =>
    unfold owe at h
    rw [Pi.add_apply, Finsupp.add_apply, tallyAt_apply] at h
    by_cases hx : g = cell (tgt c x) x.1 ∧ u = ()
    · exact ⟨x, List.mem_cons_self, hx.1⟩
    · rw [if_neg hx] at h
      obtain ⟨y, hy, e⟩ := ih h
      exact ⟨y, List.mem_cons_of_mem _ hy, e⟩

omit [FloatOps F] in
/-- A device may wait at a semaphore below everything it still owes. -/
theorem mayWait (c : Dev nD) (sm : SemLoc sig) (n : ℕ) (l : List (Kd × Bool)) (hsm : lv ((c : Thread nD τ), sm) () ≤ n)
    (hl : ∀ x ∈ l, n < lvl x.1) : (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨x, -, rfl⟩ := owe_pos hg; exact Finset.mem_singleton_self _)
    (fun p hp => by rw [Finset.mem_singleton.mp hp]; exact hsm)
    (fun g u hg => by obtain ⟨x, hx, rfl⟩ := owe_pos hg; rw [lv_cell]; exact hl x hx)

end Cert.KernelIdeal.Exchange

end
-- ==== Proof.Pieces.lean ====
/-
Cutting a buffer into pieces and putting it back together.

A buffer's elements are cut along a family of pairwise disjoint sets, whatever is in none of them kept aside; and the
pieces, at any contents, with what was kept aside, make up the buffer again. No covering is needed.
-/
module

public import proofs.«01_k».proof.Proof.Protocol

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Element sets -/

section Sets
variable {ℓ : Loc nD τ sig} {q : PosShare TreeShare} {T : Type} [Fintype T] [DecidableEq T]

omit [FloatOps F] in
/-- Elements cut along a disjoint family, the rest kept. -/
theorem cut (S : Finset (Idx ℓ)) (K : T → Finset (Idx ℓ)) (hK : ∀ t, K t ⊆ S) (hd : ∀ t t', t ≠ t' → Disjoint (K t) (K t'))
    (f : Buf (Elt F) ℓ) :
    (ℓ ↦[S]{q} f : sProp 𝕄) ⊢ iprop((bigSep Finset.univ fun t => ℓ ↦[K t]{q} f) ∗ ℓ ↦[S \ Finset.univ.biUnion K]{q} f) := by
  rw [← pointsTo_biUnion Finset.univ K fun t _ t' _ h => hd t t' h]
  exact (pointsTo_split_subset (Finset.biUnion_subset.mpr fun t _ => hK t)).1

omit [FloatOps F] in
/-- The pieces at any contents and the rest at any contents are the whole at some contents. -/
theorem glue (S : Finset (Idx ℓ)) (K : T → Finset (Idx ℓ)) (hK : ∀ t, K t ⊆ S) (hd : ∀ t t', t ≠ t' → Disjoint (K t) (K t'))
    (f₀ : Buf (Elt F) ℓ) :
    iprop((bigSep Finset.univ fun t => iprop(∃ f : Buf (Elt F) ℓ, ℓ ↦[K t]{q} f)) ∗ ∃ f, ℓ ↦[S \ Finset.univ.biUnion K]{q} f)
      ⊢ (iprop(∃ f, ℓ ↦[S]{q} f) : sProp 𝕄) := by
  haveI : Nonempty (Buf (Elt F) ℓ) := ⟨f₀⟩
  iintro ⟨HK, ⟨%fr, Hr⟩⟩
  ihave H := (BI.bigSep_exists_pi Finset.univ (fun (t : T) (f : Buf (Elt F) ℓ) => (ℓ ↦[K t]{q} f : sProp 𝕄))) $$ HK
  icases H with ⟨%fs, HK⟩
  ihave H := (pointsTo_biUnion_join Finset.univ K fs f₀ fun t _ t' _ h => hd t t' h) $$ HK
  icases H with ⟨%g, -, HK⟩
  iexists (Finset.univ.biUnion K).piecewise g fr
  iapply (pointsTo_join_subset (Finset.biUnion_subset.mpr fun t _ => hK t))
  isplitl [HK] <;> iassumption

end Sets

/-! ## Slices of a memref -/

section Slices
variable {sp : Space} {s s' : Shape} {e : EltTy} {T : Type} [Fintype T] [DecidableEq T]

/-- What is left of a memref's elements beside those of a family of slices, at some contents. -/
def restOf (c : Dev nD) (M : Memref sig .tc sp s e) (r : T → Rect s) (q : PosShare TreeShare) : sProp 𝕄 :=
  iprop(∃ f, M.view.loc (c : Thread nD τ) ↦[M.view.set \ Finset.univ.biUnion fun t => (M.view.slice (r t)).set]{q} f)

omit [FloatOps F] in
/-- A memref owned at `X` is its slices along pairwise disjoint rectangles, each at its part of `X`, and the rest. -/
theorem owns_cut (c : Dev nD) (M : Memref sig .tc sp s e) (r : T → Rect s) (h : ∀ t a, (r t).stride a = 1)
    (hd : ∀ t t', t ≠ t' → Disjoint (r t).set (r t').set) (q : PosShare TreeShare) (X : s.Idx → Elt F e) :
    (owns (c : Thread nD τ) M q X : sProp 𝕄)
      ⊢ iprop((bigSep Finset.univ fun t => owns (c : Thread nD τ) (M.slice (r t) (h t)) q fun i => X ((r t).emb i)) ∗ restOf c M r q) := by
  unfold restOf
  rw [show (owns (c : Thread nD τ) M q X : sProp 𝕄) = iprop(∃ f, ⌜M.view.read (Elt F) f = X⌝ ∗ (M.view.loc (c : Thread nD τ) ↦[M.view.set]{q} f)) from rfl]
  iintro ⟨%f, %hf, H⟩
  ihave H' := (cut M.view.set (fun t => (M.view.slice (r t)).set) (fun t => M.view.set_slice_subset (r t))
    (fun t t' ht => by rw [View.set_slice, View.set_slice]; exact (Finset.disjoint_map _).mpr (hd t t' ht)) f) $$ H
  icases H' with ⟨HK, Hr⟩
  isplitl [HK]
  · have hm : (bigSep Finset.univ fun t => (M.view.loc (c : Thread nD τ) ↦[(M.view.slice (r t)).set]{q} f : sProp 𝕄))
        ⊢ bigSep Finset.univ fun t => owns (c : Thread nD τ) (M.slice (r t) (h t)) q fun i => X ((r t).emb i) :=
      bigSep_mono fun t _ => by
        subst hf; exact Entails.of_eq (owns_slice_read (c : Thread nD τ) M q (r t) (h t) f).symm
    iapply hm; iexact HK
  · iexists f; iexact Hr

omit [FloatOps F] in
/-- The slices, each at any contents, and the rest are the memref at some contents. -/
theorem owns_glue (c : Dev nD) (M : Memref sig .tc sp s e) (r : T → Rect s) (h : ∀ t a, (r t).stride a = 1)
    (hd : ∀ t t', t ≠ t' → Disjoint (r t).set (r t').set) (q : PosShare TreeShare) :
    iprop((bigSep Finset.univ fun t => iprop(∃ X : (r t).shape.Idx → Elt F e, owns (c : Thread nD τ) (M.slice (r t) (h t)) q X)) ∗ restOf c M r q)
      ⊢ (iprop(∃ X : s.Idx → Elt F e, owns (c : Thread nD τ) M q X) : sProp 𝕄) := by
  unfold restOf
  iintro ⟨HK, ⟨%fr, Hr⟩⟩
  have hm : (bigSep Finset.univ fun t => (iprop(∃ X : (r t).shape.Idx → Elt F e, owns (c : Thread nD τ) (M.slice (r t) (h t)) q X) : sProp 𝕄))
      ⊢ bigSep Finset.univ fun t =>
        iprop(∃ f : Buf (Elt F) (M.view.loc (c : Thread nD τ)), M.view.loc (c : Thread nD τ) ↦[(M.view.slice (r t)).set]{q} f) :=
    bigSep_mono fun t _ => by
      show (iprop(∃ X : (r t).shape.Idx → Elt F e, owns (c : Thread nD τ) (M.slice (r t) (h t)) q X) : sProp 𝕄)
        ⊢ iprop(∃ f : Buf (Elt F) (M.view.loc (c : Thread nD τ)), M.view.loc (c : Thread nD τ) ↦[(M.view.slice (r t)).set]{q} f)
      unfold owns
      iintro ⟨%X, ⟨%f, -, H⟩⟩; iexists f; iexact H
  ihave HK := hm $$ HK
  ihave H := (glue M.view.set (fun t => (M.view.slice (r t)).set) (fun t => M.view.set_slice_subset (r t))
    (fun t t' ht => by rw [View.set_slice, View.set_slice]; exact (Finset.disjoint_map _).mpr (hd t t' ht)) fr) $$ [HK Hr]
  · isplitl [HK]; · iexact HK
    iexists fr; iexact Hr
  icases H with ⟨%f, H⟩
  iexists M.view.read (Elt F) f
  iapply (owns_intro (c : Thread nD τ) M q f); iexact H

omit [FloatOps F] in
/-- A memref owned at `X`, read through a squeeze that drops extents of one. -/
theorem owns_squeeze (c : Dev nD) (M : Memref sig .tc sp s e) (hq : s.Squeezes s') (q : PosShare TreeShare) (X : s.Idx → Elt F e) :
    (owns (c : Thread nD τ) M q X : sProp 𝕄)
      ⊢ owns (c : Thread nD τ) (M.squeeze s' hq) q fun i => X (Shape.reshapeEquiv hq.numel_eq i) := by
  rw [show (owns (c : Thread nD τ) M q X : sProp 𝕄) = iprop(∃ f, ⌜M.view.read (Elt F) f = X⌝ ∗ (M.view.loc (c : Thread nD τ) ↦[M.view.set]{q} f)) from rfl]
  iintro ⟨%f, %hf, H⟩
  subst hf
  rw [← Memref.set_view_squeeze M hq]
  iapply (owns_intro (c : Thread nD τ) (M.squeeze s' hq) q f); iexact H

omit [FloatOps F] in
/-- And back, at some contents. -/
theorem owns_unsqueeze (c : Dev nD) (M : Memref sig .tc sp s e) (hq : s.Squeezes s') (q : PosShare TreeShare) (X : s'.Idx → Elt F e) :
    (owns (c : Thread nD τ) (M.squeeze s' hq) q X : sProp 𝕄) ⊢ iprop(∃ Y, owns (c : Thread nD τ) M q Y) := by
  rw [show (owns (c : Thread nD τ) (M.squeeze s' hq) q X : sProp 𝕄)
    = iprop(∃ f, ⌜(M.squeeze s' hq).view.read (Elt F) f = X⌝ ∗ ((M.squeeze s' hq).view.loc (c : Thread nD τ) ↦[(M.squeeze s' hq).view.set]{q} f)) from rfl]
  iintro ⟨%f, -, H⟩
  rw [Memref.set_view_squeeze M hq]
  iexists M.view.read (Elt F) f
  iapply (owns_intro (c : Thread nD τ) M q f); iexact H

end Slices

/-! ## Which rectangles are disjoint -/

/-- Two unit-stride rectangles that lie apart along one axis share no element. -/
theorem disjoint_of_apart {s : Shape} (r r' : Rect s) (hr : ∀ a, r.stride a = 1) (hr' : ∀ a, r'.stride a = 1) (a : Fin s.rank)
    (h : r.off a + r.size a ≤ r'.off a ∨ r'.off a + r'.size a ≤ r.off a) : Disjoint r.set r'.set :=
  Finset.disjoint_left.mpr fun x hx hx' => by
    obtain ⟨j, rfl⟩ := r.exists_idx_of_mem hx
    obtain ⟨j', e⟩ := r'.exists_idx_of_mem hx'
    have e := congrArg (fun y => (y a).val) e
    have h1 : (r.idx j a).val = r.off a + r.stride a * (j a).val := rfl
    have h2 : (r'.idx j' a).val = r'.off a + r'.stride a * (j' a).val := rfl
    have h3 := (j a).isLt
    have h4 := (j' a).isLt
    have e : (r'.idx j' a).val = (r.idx j a).val := e
    rw [h1, h2, hr, hr'] at e
    have h5 : (j a).val < r.size a := h3
    have h6 : (j' a).val < r'.size a := h4
    omega

end Cert.KernelIdeal.Exchange

end
-- ==== Proof.Steps.lean ====
/-
The steps of a device's program, one rule for each sort.

Each rule says what a device must hold to take the step and what it holds afterwards, in terms of the exchange of
`Protocol.lean`: raising a neighbour's barrier, sending a block or a quarter, waiting for one of the exchange's rounds,
copying within the device and waiting for that copy, loading and storing.
-/
module

public import proofs.«01_k».proof.Proof.Protocol
public import proofs.«01_k».proof.Proof.Pieces

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Where the local copies' counters live. -/
abbrev EC : UEmb Counters (MT nD τ sig Unit (Elt F) ℕ UU ℕ) := countersEmb

/-! ## What everybody knows, and a device's own bookkeeping -/

/-- Every cell of the exchange has its invariant and has reached its round; and the levels are fixed. -/
def recs : sProp 𝕄 :=
  iprop(∃ Kn : Dev nD × Kd → ℕ, (bigSep Finset.univ fun x : Dev nD × Kd => cellInv EX (Rd m) (Kn x) (cell x.1 x.2))
    ∗ (bigSep Finset.univ fun x : Dev nD × Kd => reached EX (cell x.1 x.2) 0) ∗ levAts L lv)

instance recs_persistent : BI.Persistent (recs m : sProp 𝕄) := by unfold recs; infer_instance

/-- Device `c` owes the listed duties. -/
def owing (c : Dev nD) (l : List (Kd × Bool)) : sProp 𝕄 := iprop(∃ W, owes (c : Thread nD τ) (owe c l) W)
/-- The right to do the duty `x` that device `c` owes. -/
abbrev tok (c : Dev nD) (x : Kd × Bool) : sProp 𝕄 := dutyTok EX (cell (tgt c x) x.1) 0 x.2
/-- Device `c` has not waited for its round of kind `k` yet. -/
abbrev pos (c : Dev nD) (k : Kd) : sProp 𝕄 := atPos EX (cell c k) 0 (∅ : Finset Bool) 0
/-- The credit for that wait. -/
abbrev crd (c : Dev nD) (k : Kd) : sProp 𝕄 := cred (tallyAt (cell c k) () (tot k))

theorem recs_at (c : Dev nD) (k : Kd) :
    (recs m : sProp 𝕄) ⊢ iprop(∃ κ : ℕ, cellInv EX (Rd m) κ (cell c k) ∗ reached EX (cell c k) 0 ∗ levAts L lv) := by
  unfold recs
  iintro ⟨%Kn, HI, HR, HL⟩
  iexists Kn (c, k)
  have hI : (bigSep Finset.univ fun x : Dev nD × Kd => cellInv EX (Rd m) (Kn x) (cell x.1 x.2) : sProp 𝕄)
      ⊢ cellInv EX (Rd m) (Kn (c, k)) (cell c k) := bigSep_elim (Finset.mem_univ (c, k))
  have hR : (bigSep Finset.univ fun x : Dev nD × Kd => reached EX (cell x.1 x.2) 0 : sProp 𝕄)
      ⊢ reached EX (cell c k) 0 := bigSep_elim (Finset.mem_univ (c, k))
  isplitl [HI]; · iapply hI $$ HI
  isplitl [HR]; · iapply hR $$ HR
  iexact HL

section Ex
variable {sp : Space} {s : Shape} {e : EltTy}

omit [FloatOps F] in
/-- Owning a memref's elements, spelled out. -/
theorem owns_ex (c : Dev nD) (M : Memref sig .tc sp s e) (q : PosShare TreeShare) (X : s.Idx → Elt F e) :
    (owns (c : Thread nD τ) M q X : sProp 𝕄)
      = iprop(∃ f, ⌜M.view.read (Elt F) f = X⌝ ∗ (M.view.loc (c : Thread nD τ) ↦[M.view.set]{q} f)) := rfl

omit [FloatOps F] in
theorem anyOf_ex (c : Dev nD) (M : Memref sig .tc sp s e) :
    (anyOf c M : sProp 𝕄) ⊢ iprop(∃ f, M.view.loc (c : Thread nD τ) ↦[M.view.set]{fullShare} f) := by
  unfold anyOf owns
  iintro ⟨%X, %f, -, H⟩
  iexists f; iexact H

end Ex

variable {α : Type} (c : Dev nD)

/-! ## Signals and sends -/

/-- Raising a neighbour's barrier, handing it the duty's payload. -/
theorem step_signal {Q : α → sProp 𝕄} {n' : Dev nD} {sm : Sem sig} {d : Bool} {k' : ℕ} (l : List (Kd × Bool)) (hn : n' = tgt c (.bar, d))
    (hs : SemLoc.reg sm = xsem .bar) (hk : k' = 1) {k : PUnit → Prog (TpuEff nD τ sig (Elt F) Λ₀ .tc) α} :
    iprop(recs m ∗ owing c ((.bar, d) :: l) ∗ tok c (.bar, d) ∗ pay m (tgt c (.bar, d)) .bar d)
      ⊢ iprop((owing c l -∗ wp frame (wpE (defs₀ (F := F)) 𝒱₀ (c : Thread nD τ) none) Set.univ (k ⟨⟩) Q) -∗ wp frame (wpE (defs₀ (F := F)) 𝒱₀ (c : Thread nD τ) none) Set.univ (.op (.semSignal (n' : Thread nD τ) sm k') k) Q) := by
  subst hn hk
  obtain rfl : sm = (SemArray.scalar (sig.barrier 0 rfl) : Sems sig S_).sem := by injection hs
  have hpay : (Rd (F := F) m).payload ((tgt c (.bar, d) : Thread nD τ), SemLoc.reg (SemArray.scalar (sig.barrier 0 rfl) : Sems sig S_).sem) 0 d
      = pay m (tgt c (.bar, d)) .bar d := payload_at m (tgt c (.bar, d)) .bar d
  rw [← hpay]
  unfold owing
  iintro ⟨HR, ⟨%W, HO⟩, Ht, Hp⟩ Hk
  ihave HR := (recs_at m (tgt c (.bar, d)) .bar) $$ HR
  icases HR with ⟨%κ, HI, Hr, -⟩
  iapply (Rounds.wp_signal 𝒱₀ EX (Rd m) (c : Thread nD τ) none (κ := κ) (d := d) (r := 0)
    ((duties_at m (tgt c (.bar, d)) .bar).symm ▸ Finset.mem_univ d) (amount_at m (tgt c (.bar, d)) .bar d) () (owe c l) rfl) $$ [HI HO Ht Hp Hr]
  · isplitl [HI]; · iexact HI
    isplitl [HO]; · iexact HO
    isplitl [Ht]; · iexact Ht
    isplitl [Hp]; · iexact Hp
    iexact Hr
  iintro HO
  iapply Hk
  iexists W; iexact HO

variable {sp sp' : Space} {s : Shape} {e : EltTy}

/-- Sending contents to another device: the source's share comes back with the send's own round, the destination goes to the
receiver with its round. -/
theorem send_at {Q : α → sProp 𝕄} {src : Memref sig .tc sp s e} {dst : Memref sig .tc sp' s e} {n' : Dev nD} {hsc : dst.view.ref.isScScratch = false}
    {sS sR : SemLoc sig} {hsrc : src.view.WordExact} {hdst : dst.view.WordExact}
    {hsem : DmaTarget.Typed (p := .tc) sp sR (.remote (n' : Thread nD τ) dst sS hsc)}
    {k : PUnit → Prog (TpuEff nD τ sig (Elt F) Λ₀ .tc) α} {q : PosShare TreeShare} {X : s.Idx → Elt F e}
    (src' : Memref sig .tc sp s e) (dst' : Memref sig .tc sp' s e) (hs : src = src') (hd : dst = dst')
    (l : List (Kd × Bool)) (kS kR : Kd) (hn : n' = tgt c (kR, false)) (hself : tgt c (kS, false) = c) (hS : sS = xsem kS) (hR : sR = xsem kR)
    (hN : dst'.view.amount sR = amt kR) (ha : amt kS = amt kR) (ht : tot kS = amt kS)
    (hp₁ : (owns (c : Thread nD τ) src' q X : sProp 𝕄) ⊢ pay m c kS false)
    (hp₂ : (owns (tgt c (kR, false) : Thread nD τ) dst' fullShare X : sProp 𝕄) ⊢ pay m (tgt c (kR, false)) kR false) :
    iprop(recs m ∗ owns (c : Thread nD τ) src' q X ∗ anyOf (tgt c (kR, false)) dst' ∗ owing c ((kR, false) :: l)
        ∗ tok c (kS, false) ∗ tok c (kR, false))
      ⊢ iprop(((crd c kS ∗ owing c l) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.remote (n' : Thread nD τ) dst sS hsc) sR hsrc hdst hsem) k) Q) := by
  subst hs hd hn hS hR
  unfold owing crd
  rw [owns_ex c src q X]
  iintro ⟨#HR, ⟨%fs, %hfs, Hs⟩, Hd, ⟨%W, HO⟩, HtS, HtR⟩ Hk
  ihave Hd := (anyOf_ex (tgt c (kR, false)) dst) $$ Hd
  icases Hd with ⟨%fd, Hd⟩
  ihave H1 := (recs_at m c kS) $$ HR
  icases H1 with ⟨%κ₁, HI₁, Hr₁, -⟩
  ihave H2 := (recs_at m (tgt c (kR, false)) kR) $$ HR
  icases H2 with ⟨%κ₂, HI₂, Hr₂, -⟩
  subst hfs
  iapply (Rounds.wp_send_pointsTo 𝒱₀ EX (Rd m) (c : Thread nD τ) none (κ₁ := κ₁) (κ₂ := κ₂) (r₁ := 0) (r₂ := 0) (d₁ := false) (d₂ := false) (q := q) (fs := fs) (fd := fd)
    (by rw [duties_at]; exact false_mem kS) (by rw [duties_at]; exact false_mem kR) () () (amt kR) hN
    (by rw [amount_at]; exact ha) (by rw [amount_at]) (owe c l) rfl
    (by rw [payload_at]; exact (owns_intro (c : Thread nD τ) src q fs).trans hp₁)
    (by
      rw [payload_at]
      have h := owns_intro (Ix := Unit) (Name := ℕ) (U := UU) (Lvl := ℕ) (tgt c (kR, false) : Thread nD τ) dst fullShare
        (dst.view.write (Elt F) fd (src.view.read (Elt F) fs) Finset.univ)
      rw [View.read_write_univ] at h
      exact h.trans hp₂)) $$ [HI₁ HI₂ Hs Hd HO HtS Hr₁ HtR Hr₂]
  · isplitl [HI₁]; · iexact HI₁
    isplitl [HI₂]; · iexact HI₂
    isplitl [Hs]; · iexact Hs
    isplitl [Hd]; · iexact Hd
    isplitl [HO]; · iexact HO
    isplitl [HtS]; · unfold tok; rw [hself]; iexact HtS
    isplitl [Hr₁]; · iexact Hr₁
    isplitl [HtR]; · iexact HtR
    iexact Hr₂
  iintro ⟨Hc, HO⟩
  iapply Hk
  isplitl [Hc]; · rw [ht, ha]; iexact Hc
  iexists W; iexact HO

/-- The same, the two semaphores being copies' semaphores. -/
theorem step_send {Q : α → sProp 𝕄} {src : Memref sig .tc sp s e} {dst : Memref sig .tc sp' s e} {n' : Dev nD} {hsc : dst.view.ref.isScScratch = false}
    {sS sR : DmaSem sig} {hsrc : src.view.WordExact} {hdst : dst.view.WordExact}
    {hsem : DmaTarget.Typed (p := .tc) sp (.dma sR) (.remote (n' : Thread nD τ) dst (.dma sS) hsc)}
    {k : PUnit → Prog (TpuEff nD τ sig (Elt F) Λ₀ .tc) α} {q : PosShare TreeShare} {X : s.Idx → Elt F e}
    (src' : Memref sig .tc sp s e) (dst' : Memref sig .tc sp' s e) (hs : src = src') (hd : dst = dst')
    (l : List (Kd × Bool)) (kS kR : Kd) (hn : n' = tgt c (kR, false)) (hself : tgt c (kS, false) = c) (hS : SemLoc.dma sS = xsem kS) (hR : SemLoc.dma sR = xsem kR)
    (hN : dst'.view.dmaCredit = amt kR) (ha : amt kS = amt kR) (ht : tot kS = amt kS)
    (hp₁ : (owns (c : Thread nD τ) src' q X : sProp 𝕄) ⊢ pay m c kS false)
    (hp₂ : (owns (tgt c (kR, false) : Thread nD τ) dst' fullShare X : sProp 𝕄) ⊢ pay m (tgt c (kR, false)) kR false) :
    iprop(recs m ∗ owns (c : Thread nD τ) src' q X ∗ anyOf (tgt c (kR, false)) dst' ∗ owing c ((kR, false) :: l)
        ∗ tok c (kS, false) ∗ tok c (kR, false))
      ⊢ iprop(((crd c kS ∗ owing c l) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.remote (n' : Thread nD τ) dst (.dma sS) hsc) (.dma sR) hsrc hdst hsem) k) Q) := by
  exact send_at m c src' dst' hs hd l kS kR hn hself hS hR hN ha ht hp₁ hp₂

/-! ## Waits for the exchange's rounds -/

/-- Waiting for a kind's whole round: what it hands over arrives, and the semaphore is at zero for good. -/
theorem step_wait {Q : α → sProp 𝕄} {w : TpuEff nD τ sig (Elt F) Λ₀ .tc PUnit} {sm : SemLoc sig} {k' : ℕ}
    (l : List (Kd × Bool)) (kd : Kd)
    (hw : ∀ K : PUnit → sProp 𝕄, wpE (defs₀ (F := F)) 𝒱₀ (c : Thread nD τ) none Set.univ w K = waitSpec (c : Thread nD τ) Set.univ sm k' K)
    (hs : sm = xsem kd) (hk : k' = tot kd) (hl : ∀ x ∈ l, lvl kd < lvl x.1)
    {k : PUnit → Prog (TpuEff nD τ sig (Elt F) Λ₀ .tc) α} :
    iprop(recs m ∗ pos c kd ∗ crd c kd ∗ owing c l)
      ⊢ iprop(((owing c l ∗ gain m c kd ∗ semVal (cell c kd) 0) -∗ wp frame (wpE (defs₀ (F := F)) 𝒱₀ (c : Thread nD τ) none) Set.univ (k ⟨⟩) Q) -∗ wp frame (wpE (defs₀ (F := F)) 𝒱₀ (c : Thread nD τ) none) Set.univ (.op w k) Q) := by
  subst hs hk
  unfold owing
  iintro ⟨#HR, Hp, Hc, ⟨%W, HO⟩⟩ Hk
  ihave H1 := (recs_at m c kd) $$ HR
  icases H1 with ⟨%κ, #HI, -, HL⟩
  iapply (Rounds.wp_wait_rest_token 𝒱₀ EX (Rd m) (c : Thread nD τ) none (κ := κ) hw (Set.mem_univ _) () (O := owe c l) (W := W)
    (R := 0) (m := 0) (T := ∅) (by rw [expect_at, Nat.zero_add])) $$ [HI Hc HO HL Hp]
  · isplitl [HI]; · iexact HI
    isplitl [Hc]; · iexact Hc
    isplitl [HO]; · iexact HO
    isplitl [HL]; · iapply (mayWait c (xsem kd) (lvl kd) l (le_of_eq (lv_cell c kd)) hl) $$ HL
    iexact Hp
  iintro ⟨HO, Hp, -, Hg⟩
  imod (Rounds.cell_close EX (Rd m) (Set.mem_univ κ) (fun h => h) (R := 0 + 1) (duties_later m _)) $$ [Hp] with Hv
  · isplitr; · iexact HI
    iexact Hp
  iapply Hk
  isplitl [HO]; · iexists (insert (xsem kd, ()) W); iexact HO
  isplitl [Hg]
  · rw [← rest_at m c kd]; iexact Hg
  iexact Hv

/-- The same for the wait for a copy, by the buffer it names. -/
theorem step_await {Q : α → sProp 𝕄} {s' : Shape} {e' : EltTy} {srcw : Memref sig .tc sp s' e'} {dstw : Memref sig .tc sp' s e} {sm : DmaSem sig}
    {hsrc : srcw.view.WordExact} {hdst : dstw.view.WordExact} {k : PUnit → Prog (TpuEff nD τ sig (Elt F) Λ₀ .tc) α}
    (dst' : Memref sig .tc sp' s e) (hd : dstw = dst') (l : List (Kd × Bool)) (kd : Kd)
    (hs : SemLoc.dma sm = xsem kd) (hk : dst'.view.dmaCredit = tot kd) (hl : ∀ x ∈ l, lvl kd < lvl x.1) :
    iprop(recs m ∗ pos c kd ∗ crd c kd ∗ owing c l)
      ⊢ iprop(((owing c l ∗ gain m c kd ∗ semVal (cell c kd) 0) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm srcw dstw hsrc hdst) k) Q) := by
  subst hd
  exact step_wait m c l kd (wpE_waitDma2_eq 𝒱₀ (c : Thread nD τ) none Set.univ) hs hk hl

/-! ## Copies within the device -/

/-- Starting a copy within the device. -/
theorem step_copy {Q : α → sProp 𝕄} {src : Memref sig .tc sp s e} {dst : Memref sig .tc sp' s e} {sm : DmaSem sig}
    {hsrc : src.view.WordExact} {hdst : dst.view.WordExact} {hsem : DmaTarget.Typed (nD := nD) (p := .tc) sp (.dma sm) (.here dst)}
    {k : PUnit → Prog (TpuEff nD τ sig (Elt F) Λ₀ .tc) α} {q : PosShare TreeShare} {X : s.Idx → Elt F e}
    (src' : Memref sig .tc sp s e) (dst' : Memref sig .tc sp' s e) (sm' : DmaSem sig) (hs : src = src') (hd : dst = dst') (hsm : sm = sm')
    (hN : 0 < dst.view.dmaCredit) :
    iprop(owns (c : Thread nD τ) src' q X ∗ anyOf c dst' ∗ semVal ((c : Thread nD τ), SemLoc.dma sm') 0)
      ⊢ iprop((Transfers.Flight EC (c : Thread nD τ) (.dma sm') () dst'.view.dmaCredit
            iprop(owns (c : Thread nD τ) dst' fullShare X ∗ owns (c : Thread nD τ) src' q X) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma sm) hsrc hdst hsem) k) Q) := by
  subst hs hd hsm
  rw [owns_ex c src q X]
  iintro ⟨⟨%fs, %hfs, Hs⟩, Hd, Hv⟩ Hk
  ihave Hd := (anyOf_ex c dst) $$ Hd
  icases Hd with ⟨%fd, Hd⟩
  subst hfs
  iapply (Transfers.wp_dmaLocal EC 𝒱₀ (c : Thread nD τ) none (src := src) (dst := dst) (via := .same) (q := q) (fs := fs) (fd := fd) (Sd := dst.view.set) () dst.view.dmaCredit rfl hN subset_rfl) $$ [Hs Hd Hv]
  · isplitl [Hs]; · iexact Hs
    isplitl [Hd]; · iexact Hd
    iexact Hv
  iintro Hf
  iapply Hk
  iapply (Transfers.Flight_mono EC (c : Thread nD τ) ?_) $$ Hf
  iintro ⟨Hd, Hs⟩
  isplitl [Hd]
  · have h := owns_intro (Ix := Unit) (Name := ℕ) (U := UU) (Lvl := ℕ) (c : Thread nD τ) dst fullShare (dst.view.write (Elt F) fd (src.view.read (Elt F) fs) Finset.univ)
    rw [View.read_write_univ] at h
    iapply h; iexact Hd
  · iexists fs
    isplitr; · ipureintro; rfl
    iexact Hs

/-- Waiting for it. -/
theorem step_copied {Q : α → sProp 𝕄} {s' : Shape} {e' : EltTy} {srcw : Memref sig .tc sp s' e'} {dstw : Memref sig .tc sp' s e} {sm : DmaSem sig}
    {hsrc : srcw.view.WordExact} {hdst : dstw.view.WordExact}
    {k : PUnit → Prog (TpuEff nD τ sig (Elt F) Λ₀ .tc) α} {D : sProp 𝕄} (dst' : Memref sig .tc sp' s e) (sm' : DmaSem sig) (hd : dstw = dst') (hs : sm = sm') (l : List (Kd × Bool)) (hsm : ∀ k, xsem k ≠ .dma sm')
    (hl : ∀ x ∈ l, 0 < lvl x.1) :
    iprop(recs m ∗ Transfers.Flight EC (c : Thread nD τ) (.dma sm') () dst'.view.dmaCredit D ∗ owing c l)
      ⊢ iprop(((D ∗ semVal ((c : Thread nD τ), SemLoc.dma sm') 0 ∗ owing c l) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm srcw dstw hsrc hdst) k) Q) := by
  subst hs hd
  unfold owing
  iintro ⟨HR, Hf, ⟨%W, HO⟩⟩ Hk
  ihave H1 := (recs_at m c .bar) $$ HR
  icases H1 with ⟨%κ, -, -, HL⟩
  iapply (Transfers.wp_waitLocalO EC 𝒱₀ (c : Thread nD τ) none (srcw := srcw) (dstw := dstw) () rfl (D := D) (O := owe c l) (W := W)) $$ [Hf HO HL]
  · isplitl [Hf]; · iexact Hf
    isplitl [HO]; · iexact HO
    iapply (mayWait c (.dma sm) 0 l (le_of_eq (lv_none c _ hsm)) hl) $$ HL
  iintro ⟨HD, Hv, HO⟩
  iapply Hk
  isplitl [HD]; · iexact HD
  isplitl [Hv]; · iexact Hv
  iexists (insert (SemLoc.dma sm, ()) W); iexact HO

/-! ## Loads and stores -/

/-- A load of a slice. -/
theorem step_load {Q : α → sProp 𝕄} {cs : CoreSpace} {M : Memref sig .tc cs s e} {r : Rect s} {h : ∀ a, r.stride a = 1} {hl : M.view.LoadsAt r.toLoadRect}
    {k : (r.shape.Idx → Elt F e) → Prog (TpuEff nD τ sig (Elt F) Λ₀ .tc) α} {q : PosShare TreeShare} {X : r.shape.Idx → Elt F e}
    {M' : Memref sig .tc cs r.shape e} (hM : M.slice r h = M') :
    (owns (c : Thread nD τ) M' q X : sProp 𝕄)
      ⊢ iprop((owns (c : Thread nD τ) M' q X -∗ wp frame (wpE (defs₀ (F := F)) 𝒱₀ (c : Thread nD τ) none) Set.univ (k X) Q) -∗ wp frame (wpE (defs₀ (F := F)) 𝒱₀ (c : Thread nD τ) none) Set.univ (.op (.load M r.toLoadRect hl) k) Q) := by
  subst hM
  rw [show (owns (c : Thread nD τ) (M.slice r h) q X : sProp 𝕄)
    = iprop(∃ f, ⌜(M.access r).read (Elt F) f = X⌝ ∗ ((M.access r).loc (c : Thread nD τ) ↦[(M.access r).set]{q} f)) from rfl]
  iintro ⟨%f, %hf, H⟩ Hk
  iapply (wp_load_rect 𝒱₀ (c : Thread nD τ) none Set.univ (m := M) (r := r) (hl := hl) subset_rfl) $$ H
  iintro H
  rw [hf]
  iapply Hk
  iexists f
  isplitr; · ipureintro; exact hf
  iexact H

/-- A load of everything. -/
theorem step_load_all {Q : α → sProp 𝕄} {cs : CoreSpace} {M : Memref sig .tc cs s e} {off : Fin s.rank → ℕ} (ho : ∀ a, off a = 0) (inb : ∀ a, off a + s.size a ≤ s.size a)
    {hl : M.view.LoadsAt (Rect.unit (s := s) off s.size inb).toLoadRect}
    {k : (s.Idx → Elt F e) → Prog (TpuEff nD τ sig (Elt F) Λ₀ .tc) α} {q : PosShare TreeShare} {X : s.Idx → Elt F e} :
    (owns (c : Thread nD τ) M q X : sProp 𝕄)
      ⊢ iprop((owns (c : Thread nD τ) M q X -∗ wp frame (wpE (defs₀ (F := F)) 𝒱₀ (c : Thread nD τ) none) Set.univ (k X) Q) -∗ wp frame (wpE (defs₀ (F := F)) 𝒱₀ (c : Thread nD τ) none) Set.univ (.op (.load M (Rect.unit (s := s) off s.size inb).toLoadRect hl) k) Q) := by
  obtain rfl : off = fun _ => 0 := funext ho
  rw [owns_ex c M q X]
  iintro ⟨%f, %hf, H⟩ Hk
  iapply (wp_load 𝒱₀ (c : Thread nD τ) none Set.univ (m := M) (r := (Rect.unit (s := s) (fun _ => 0) s.size inb).toLoadRect) (hl := hl) (S := M.view.set) (q := q) (f := f) (Finset.map_subset_map.mpr (Finset.subset_univ _))) $$ H
  iintro H
  rw [View.readAt_full, hf]
  iapply Hk
  iexists f
  isplitr; · ipureintro; exact hf
  iexact H

/-- A store into a slice. -/
theorem step_store {Q : α → sProp 𝕄} {cs : CoreSpace} {M : Memref sig .tc cs s e} {r : Rect s} {h : ∀ a, r.stride a = 1} {w : r.shape.Idx → Elt F e}
    {hx : (M.access r).Stores Finset.univ} {hm : (Finset.univ : Finset r.shape.Idx) = Finset.univ ∨ ∀ a, r.stride a = 1}
    {k : PUnit → Prog (TpuEff nD τ sig (Elt F) Λ₀ .tc) α} {X : r.shape.Idx → Elt F e}
    {M' : Memref sig .tc cs r.shape e} (hM : M.slice r h = M') :
    (owns (c : Thread nD τ) M' fullShare X : sProp 𝕄)
      ⊢ iprop((owns (c : Thread nD τ) M' fullShare w -∗ wp frame (wpE (defs₀ (F := F)) 𝒱₀ (c : Thread nD τ) none) Set.univ (k ⟨⟩) Q) -∗ wp frame (wpE (defs₀ (F := F)) 𝒱₀ (c : Thread nD τ) none) Set.univ (.op (.store M r w Finset.univ hx hm) k) Q) := by
  subst hM
  rw [show ∀ Y, (owns (c : Thread nD τ) (M.slice r h) fullShare Y : sProp 𝕄)
    = iprop(∃ f, ⌜(M.access r).read (Elt F) f = Y⌝ ∗ ((M.access r).loc (c : Thread nD τ) ↦[(M.access r).set]{fullShare} f)) from fun _ => rfl]
  rw [show ∀ Y, (owns (c : Thread nD τ) (M.slice r h) fullShare Y : sProp 𝕄)
    = iprop(∃ f, ⌜(M.access r).read (Elt F) f = Y⌝ ∗ ((M.access r).loc (c : Thread nD τ) ↦[(M.access r).set]{fullShare} f)) from fun _ => rfl]
  iintro ⟨%f, -, H⟩ Hk
  iapply (wp_store 𝒱₀ (c : Thread nD τ) none Set.univ (m := M) (r := r) (w := w) (Mk := Finset.univ) (hx := hx) (hm := hm) (S := (M.access r).set) subset_rfl) $$ H
  iintro H
  iapply Hk
  iexists (M.access r).write (Elt F) f w Finset.univ
  isplitr; · ipureintro; exact View.read_write_univ _ _
  iexact H

instance : Subsingleton S1.Idx := ⟨fun i j => funext fun a => by
  have h : ∀ (a : Fin 1) (u v : Fin (S1.size a)), u = v := by decide
  exact h a (i a) (j a)⟩

/-- Reading the one word of a scalar operand. -/
theorem step_scalar {Q : α → sProp 𝕄} {M : Memref sig .tc .smem S1 .f32} {r : Rect S1}
    {hw : (M.access r).Loads} {x : r.shape.Idx}
    {k : Elt F .f32 → Prog (TpuEff nD τ sig (Elt F) Λ₀ .tc) α} {q : PosShare TreeShare} {X : S1.Idx → Elt F .f32} (i : S1.Idx) :
    (owns (c : Thread nD τ) M q X : sProp 𝕄)
      ⊢ iprop((owns (c : Thread nD τ) M q X -∗ wp frame (wpE (defs₀ (F := F)) 𝒱₀ (c : Thread nD τ) none) Set.univ (k (X i)) Q) -∗ wp frame (wpE (defs₀ (F := F)) 𝒱₀ (c : Thread nD τ) none) Set.univ (smemLoadElt M r hw x k) Q) := by
  rw [owns_ex c M q X]
  iintro ⟨%f, %hf, H⟩ Hk
  iapply (wp_smemLoadElt 𝒱₀ (c : Thread nD τ) none Set.univ (m := M) (r := r) (hw := hw) (x := x) (S := M.view.set) (f := f) (M.view.set_slice_subset r)) $$ H
  iintro H
  rw [show (M.access r).read (Elt F) f x = X i from by
    subst hf
    show M.view.read (Elt F) f (r.emb x) = _
    congr 1
    exact Subsingleton.elim _ _]
  iapply Hk
  iexists f
  isplitr; · ipureintro; exact hf
  iexact H

end Cert.KernelIdeal.Exchange

end
-- ==== Proof.First.lean ====
/-
The first half of a device's program: the copies in, the barrier, the first hop, and the forwards of the second.
-/
module

public import proofs.«01_k».proof.Proof.Steps

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Names -/

/-- The two scale factors, as the kernel holds them. -/
abbrev sA : Memref sig .tc .smem S1 .f32 := Memref.whole cc0_stg0_0
abbrev tA : Memref sig .tc .smem S1 .f32 := Memref.whole cc0_stg1_0

set_option backward.proofsInPublic true in
/-- The semaphores of the copies within a device: in, and out. -/
def inS (i : Fin 2) : DmaSem sig := ⟨2 + i.val, by have := i.isLt; show _ < 23; omega⟩
set_option backward.proofsInPublic true in
def outS (i : Fin 7) : DmaSem sig := ⟨16 + i.val, by have := i.isLt; show _ < 23; omega⟩

theorem inS_ne : ∀ (i : Fin 2) (k : Kd), xsem k ≠ .dma (inS i) := by decide
theorem outS_ne : ∀ (i : Fin 7) (k : Kd), xsem k ≠ .dma (outS i) := by decide

/-- A semaphore of a device at zero. -/
abbrev zero (c : Dev nD) (sm : SemLoc sig) : sProp 𝕄 := semVal ((c : Thread nD τ), sm) 0

/-- A copy in flight within a device that delivers the destination at `X` and gives the source's share back. -/
abbrev flight (c : Dev nD) (sm : DmaSem sig) {sp sp' : Space} {s : Shape} {e : EltTy} (src : Memref sig .tc sp s e)
    (dst : Memref sig .tc sp' s e) (q : PosShare TreeShare) (X : s.Idx → Elt F e) : sProp 𝕄 :=
  Transfers.Flight EC (c : Thread nD τ) (.dma sm) () dst.view.dmaCredit
    iprop(owns (c : Thread nD τ) dst fullShare X ∗ owns (c : Thread nD τ) src q X)

theorem q0_eq {sp : Space} (M : Memref sig .tc sp S1024x4096 .i8) :
    M.slice (Rect.unit (s := S1024x4096) ![0, 0] S256x4096.size inb_S1024x4096_S256x4096_0_0) (fun _ => rfl) = qM M 0 := rfl
theorem q1_eq {sp : Space} (M : Memref sig .tc sp S1024x4096 .i8) :
    M.slice (Rect.unit (s := S1024x4096) ![256, 0] S256x4096.size inb_S1024x4096_S256x4096_256_0) (fun _ => rfl) = qM M 1 := rfl
theorem q2_eq {sp : Space} (M : Memref sig .tc sp S1024x4096 .i8) :
    M.slice (Rect.unit (s := S1024x4096) ![512, 0] S256x4096.size inb_S1024x4096_S256x4096_512_0) (fun _ => rfl) = qM M 2 := rfl
theorem q3_eq {sp : Space} (M : Memref sig .tc sp S1024x4096 .i8) :
    M.slice (Rect.unit (s := S1024x4096) ![768, 0] S256x4096.size inb_S1024x4096_S256x4096_768_0) (fun _ => rfl) = qM M 3 := rfl

variable (m : (ℓ : Loc nD τ sig) → Buf (Elt F) ℓ) (c : Dev nD)
variable (h0 : xA.IsWhole) (h1 : wA.IsWhole) (h2 : sA.IsWhole) (h3 : tA.IsWhole) (h4 : oA.IsWhole) (h5 : xM.IsWhole)
  (h6 : wM.IsWhole) (h7 : lM.IsWhole) (h8 : rM.IsWhole) (h9 : dM.IsWhole) (h10 : gM.IsWhole)

/-- The only index of a scale factor. -/
def only : S1.Idx := fun a => ⟨0, by revert a; decide⟩

/-- The two scale factors at launch. -/
def sIn : S1.Idx → Elt F .f32 := m ((c : Thread nD τ).loc main_arg2)
def tIn : S1.Idx → Elt F .f32 := m ((c : Thread nD τ).loc main_arg3)
/-- Their product, as the kernel computes it. -/
def scl : Elt F .f32 := k0_pay1 (sIn m c only) (tIn m c only)

/-! ## The first statements: the copies in, the first hop -/

/-- What the exchange's copies are worth, by the buffers they land in. -/
theorem credit_l : (lM : Memref sig .tc .vmem S1024x4096 .i8).view.dmaCredit = amt (.rcv 0) := rfl
theorem credit_r : (rM : Memref sig .tc .vmem S1024x4096 .i8).view.dmaCredit = amt (.rcv 1) := rfl
theorem credit_q (j : Fin 4) : (qM dM j).view.dmaCredit = amt (.frc j) := rfl
theorem tot_l : (lM : Memref sig .tc .vmem S1024x4096 .i8).view.dmaCredit = tot (.rcv 0) := rfl
theorem tot_r : (rM : Memref sig .tc .vmem S1024x4096 .i8).view.dmaCredit = tot (.rcv 1) := rfl
theorem tot_q (j : Fin 4) : (qM dM j).view.dmaCredit = tot (.frc j) := rfl
theorem tot_s (i : Fin 2) : (xM : Memref sig .tc .vmem S1024x4096 .i8).view.dmaCredit = tot (.snd i) := rfl
theorem tot_lf (j : Fin 4) : (qM lM j).view.dmaCredit = tot (.fsd j) := rfl
theorem tot_rf (j : Fin 4) : (qM rM j).view.dmaCredit = tot (.fsd j) := rfl

/-- Starting both copies in, and raising the left neighbour's barrier. -/
theorem part1_spec {Q : _ → sProp 𝕄} :
    iprop(recs m ∗ owing c debts ∗ tok c (.bar, true) ∗ pay m (left c) .bar true
        ∗ (owns (c : Thread nD τ) xA fullShare (xin m c) ∗ anyOf c xM ∗ zero c (.dma (inS 0)))
        ∗ owns (c : Thread nD τ) wA fullShare (win m c) ∗ anyOf c wM ∗ zero c (.dma (inS 1)))
      ⊢ iprop((∀ v2 v14 v25, (owing c ((.bar, false) :: debts₁) ∗ flight c (inS 0) xA xM fullShare (xin m c) ∗ flight c (inS 1) wA wM fullShare (win m c))
            -∗ Q ⟨c, v2, v14, v25, SemArray.scalar (sig.barrier 0 rfl)⟩)
        -∗ wp frame (wpE (defs₀ (F := F)) 𝒱₀ (c : Thread nD τ) none) Set.univ (k0_part1 xA h0 wA h1 sA h2 tA h3 oA h4 xM h5 wM h6 lM h7 rM h8 dM h9 gM h10 cc0_scratch6 cc0_scratch7 cc0_scratch8 cc0_scratch9 cc0_scratch10 cc0_scratch11) Q) := by
  rw [k0_part1_eq_skeleton]
  unfold k0_part1_skel
  simp only [semSignalWord, semWaitWord, Prog.lift, Prog.bind_op, Prog.bind_ret, Prog.pure_eq_ret, wp_deviceId]
  iintro ⟨#HR, HO, Ht, Hp, HX, HW⟩ HQ
  iapply (step_copy c xA xM (inS 0) rfl rfl rfl (View.dmaCredit_pos _ (by decide))) $$ HX
  iintro HX
  iapply (step_copy c wA wM (inS 1) rfl rfl rfl (View.dmaCredit_pos _ (by decide))) $$ HW
  iintro HW
  iapply (step_signal m c (d := true) ((.bar, false) :: debts₁) (dev1_eq c) rfl rfl) $$ [HO Ht Hp]
  · isplitr; · iexact HR
    isplitl [HO]; · iexact HO
    isplitl [Ht]; · iexact Ht
    iexact Hp
  iintro HO
  rw [wp_ret]
  imodintro
  iapply HQ
  isplitl [HO]; · iexact HO
  isplitl [HX]; · iexact HX
  iexact HW

omit [FloatOps F] in
/-- A memref owned whole is its two halves by share, and back. -/
theorem halve {sp : Space} {s : Shape} {e : EltTy} (c : Dev nD) (M : Memref sig .tc sp s e) (q : PosShare TreeShare) (X : s.Idx → Elt F e) :
    (owns (c : Thread nD τ) M q X : sProp 𝕄) ⊣⊢ iprop(owns (c : Thread nD τ) M q.left X ∗ owns (c : Thread nD τ) M q.right X) :=
  owns_share (c : Thread nD τ) M (PosShare.mem_left_op_right q) X

/-- The barrier, the first hop's two sends, the weights' arrival, and the device's own rows loaded. -/
theorem part2_spec (v2 v14 v25 : BitVec 32) {Q : _ → sProp 𝕄} :
    iprop(recs m ∗ owing c ((.bar, false) :: debts₁) ∗ tok c (.bar, false) ∗ pay m (right c) .bar false ∗ pos c .bar ∗ crd c .bar
        ∗ flight c (inS 0) xA xM fullShare (xin m c) ∗ flight c (inS 1) wA wM fullShare (win m c)
        ∗ (tok c (.snd 0, false) ∗ tok c (.rcv 0, false) ∗ tok c (.snd 1, false) ∗ tok c (.rcv 1, false))
        ∗ owns (c : Thread nD τ) sA fullShare (sIn m c) ∗ owns (c : Thread nD τ) tA fullShare (tIn m c))
      ⊢ iprop(((owing c debts₂ ∗ (crd c (.snd 0) ∗ crd c (.snd 1)) ∗ (anyOf (right c) (qM dM 0) ∗ anyOf (right c) (qM dM 1))
              ∗ (anyOf (left c) (qM dM 2) ∗ anyOf (left c) (qM dM 3))
              ∗ (owns (c : Thread nD τ) xM fullShare.left (xin m c) ∗ owns (c : Thread nD τ) wM fullShare (win m c))
              ∗ (owns (c : Thread nD τ) xA fullShare (xin m c) ∗ owns (c : Thread nD τ) wA fullShare (win m c))
              ∗ (owns (c : Thread nD τ) sA fullShare (sIn m c) ∗ owns (c : Thread nD τ) tA fullShare (tIn m c))
              ∗ zero c (xsem .bar) ∗ zero c (.dma (inS 0)) ∗ zero c (.dma (inS 1)))
            -∗ Q ⟨scl m c, k0_pay2 (sIn m c only) (tIn m c only) (xin m c) (win m c)⟩)
        -∗ wp frame (wpE (defs₀ (F := F)) 𝒱₀ (c : Thread nD τ) none) Set.univ
          (k0_part2 xA h0 wA h1 sA h2 tA h3 oA h4 xM h5 wM h6 lM h7 rM h8 dM h9 gM h10 cc0_scratch6 cc0_scratch7 cc0_scratch8 cc0_scratch9 cc0_scratch10 cc0_scratch11 c v2 v14 v25 (SemArray.scalar (sig.barrier 0 rfl))) Q) := by
  rw [k0_part2_eq_skeleton, show scl m c = k0_pay1 (sIn m c only) (tIn m c only) from rfl]
  unfold k0_part2_skel
  simp only [semSignalWord, semWaitWord, Prog.lift, Prog.bind_op, Prog.bind_ret, Prog.pure_eq_ret, smemLoad, smemLoadElt_bind]
  iintro ⟨#HR, HO, Ht, Hp, Hpos, Hc, HX, HW, ⟨HtS0, HtR0, HtS1, HtR1⟩, Hs, Htt⟩ HQ
  iapply (step_signal m c (d := false) debts₁ (dev2_eq c) rfl rfl) $$ [HO Ht Hp]
  · isplitr; · iexact HR
    isplitl [HO]; · iexact HO
    isplitl [Ht]; · iexact Ht
    iexact Hp
  iintro HO
  iapply (step_wait m c debts₁ .bar (wpE_semWait_eq 𝒱₀ (c : Thread nD τ) none Set.univ) rfl rfl (by decide)) $$ [Hpos Hc HO]
  · isplitr; · iexact HR
    isplitl [Hpos]; · iexact Hpos
    isplitl [Hc]; · iexact Hc
    iexact HO
  iintro ⟨HO, Hg, Hbar⟩
  have hg : (gain m c .bar : sProp 𝕄) ⊢ iprop((anyOf (left c) rM ∗ anyOf (left c) (qM dM 2) ∗ anyOf (left c) (qM dM 3))
      ∗ anyOf (right c) lM ∗ anyOf (right c) (qM dM 0) ∗ anyOf (right c) (qM dM 1)) := .rfl
  ihave Hg := hg $$ Hg
  icases Hg with ⟨⟨HrM, Hd2, Hd3⟩, HlM, Hd0, Hd1⟩
  iapply (step_copied m c xM (inS 0) rfl rfl debts₁ (inS_ne 0) (by decide)) $$ [HX HO]
  · isplitr; · iexact HR
    isplitl [HX]; · iexact HX
    iexact HO
  iintro ⟨⟨HX, HxA⟩, Hz0, HO⟩
  ihave HX := (halve c xM fullShare (xin m c)).1 $$ HX
  icases HX with ⟨HXl, HXr⟩
  ihave HXr := (halve c xM fullShare.right (xin m c)).1 $$ HXr
  icases HXr with ⟨HXrl, HXrr⟩
  iapply (step_send m c xM lM rfl rfl (q := fullShare.right.left) (X := xin m c) ((.rcv 1, false) :: debts₂) (.snd 0) (.rcv 0) (dev3_eq c) rfl rfl rfl credit_l rfl rfl
    .rfl (by show owns (right c : Thread nD τ) lM fullShare (xin m c) ⊢ owns (right c : Thread nD τ) lM fullShare (xin m (left (right c))); rw [left_right])) $$ [HXrl HlM HO HtS0 HtR0]
  · isplitr; · iexact HR
    isplitl [HXrl]; · iexact HXrl
    isplitl [HlM]; · iexact HlM
    isplitl [HO]; · iexact HO
    isplitl [HtS0]; · iexact HtS0
    iexact HtR0
  iintro ⟨Hc0, HO⟩
  iapply (step_send m c xM rM rfl rfl (q := fullShare.right.right) (X := xin m c) debts₂ (.snd 1) (.rcv 1) (dev4_eq c) rfl rfl rfl credit_r rfl rfl
    .rfl (by show owns (left c : Thread nD τ) rM fullShare (xin m c) ⊢ owns (left c : Thread nD τ) rM fullShare (xin m (right (left c))); rw [right_left])) $$ [HXrr HrM HO HtS1 HtR1]
  · isplitr; · iexact HR
    isplitl [HXrr]; · iexact HXrr
    isplitl [HrM]; · iexact HrM
    isplitl [HO]; · iexact HO
    isplitl [HtS1]; · iexact HtS1
    iexact HtR1
  iintro ⟨Hc1, HO⟩
  iapply (step_copied m c wM (inS 1) rfl rfl debts₂ (inS_ne 1) (by decide)) $$ [HW HO]
  · isplitr; · iexact HR
    isplitl [HW]; · iexact HW
    iexact HO
  iintro ⟨⟨HW, HwA⟩, Hz1, HO⟩
  iapply (step_scalar c (X := sIn m c) only) $$ Hs; iintro Hs
  iapply (step_scalar c (X := tIn m c) only) $$ Htt; iintro Htt
  iapply (step_load_all c (M := xM) (by decide) inb_S1024x4096_S1024x4096_0_0) $$ HXl; iintro HXl
  iapply (step_load_all c (M := wM) (by decide) inb_S4096x512_S4096x512_0_0) $$ HW; iintro HW
  rw [wp_ret]
  imodintro
  iapply HQ
  isplitl [HO]; · iexact HO
  isplitl [Hc0 Hc1]; · isplitl [Hc0] <;> iassumption
  isplitl [Hd0 Hd1]; · isplitl [Hd0] <;> iassumption
  isplitl [Hd2 Hd3]; · isplitl [Hd2] <;> iassumption
  isplitl [HXl HW]; · isplitl [HXl] <;> iassumption
  isplitl [HxA HwA]; · isplitl [HxA] <;> iassumption
  isplitl [Hs Htt]; · isplitl [Hs] <;> iassumption
  isplitl [Hbar]; · iexact Hbar
  isplitl [Hz0] <;> iassumption

/-! ## Quarters -/

theorem quarter_disj (j j' : Fin 4) (h : j ≠ j') : Disjoint (quarter j).set (quarter j').set :=
  disjoint_of_apart _ _ (fun _ => rfl) (fun _ => rfl) 0 (by
    have : ∀ j j' : Fin 4, j ≠ j' → 256 * j.val + 256 ≤ 256 * j'.val ∨ 256 * j'.val + 256 ≤ 256 * j.val := by decide
    exact this j j' h)

/-- Two of the quarters. -/
abbrev pair (a b : Fin 4) (t : Fin 2) : Rect S1024x4096 := quarter (if t = 0 then a else b)

theorem pair_disj {a b : Fin 4} (h : a ≠ b) (t t' : Fin 2) (ht : t ≠ t') : Disjoint (pair a b t).set (pair a b t').set :=
  quarter_disj _ _ (by
    have : ∀ (a b : Fin 4) (t t' : Fin 2), a ≠ b → t ≠ t' → (if t = 0 then a else b) ≠ (if t' = 0 then a else b) := by decide
    exact this a b t t' h ht)

omit [FloatOps F] in
/-- A block owned at `X` is two of its quarters and the rest. -/
theorem pair_cut (M : Memref sig .tc .vmem S1024x4096 .i8) {a b : Fin 4} (h : a ≠ b) (q : PosShare TreeShare) (X : S1024x4096.Idx → Elt F .i8) :
    (owns (c : Thread nD τ) M q X : sProp 𝕄)
      ⊢ iprop(owns (c : Thread nD τ) (qM M a) q (rowsOf X a) ∗ owns (c : Thread nD τ) (qM M b) q (rowsOf X b) ∗ restOf c M (pair a b) q) := by
  have H : (owns (c : Thread nD τ) M q X : sProp 𝕄)
      ⊢ iprop((owns (c : Thread nD τ) (qM M a) q (rowsOf X a) ∗ owns (c : Thread nD τ) (qM M b) q (rowsOf X b)) ∗ restOf c M (pair a b) q) := by
    have H := owns_cut (F := F) c M (pair a b) (fun _ _ => rfl) (pair_disj h) q X
    rw [bigSep_univ_eq_bigSepL [0, 1] (by decide) (by decide), bigSepL_cons_cons, bigSepL_singleton] at H
    exact H
  iintro HM
  ihave HM := H $$ HM
  icases HM with ⟨⟨Ha, Hb⟩, Hr⟩
  isplitl [Ha]; · iexact Ha
  isplitl [Hb]; · iexact Hb
  iexact Hr

omit [FloatOps F] in
/-- And back, at some contents. -/
theorem pair_glue (M : Memref sig .tc .vmem S1024x4096 .i8) {a b : Fin 4} (h : a ≠ b) (q : PosShare TreeShare) (Xa Xb : S256x4096.Idx → Elt F .i8) :
    iprop(owns (c : Thread nD τ) (qM M a) q Xa ∗ owns (c : Thread nD τ) (qM M b) q Xb ∗ restOf c M (pair a b) q)
      ⊢ (iprop(∃ X, owns (c : Thread nD τ) M q X) : sProp 𝕄) := by
  have H : iprop(((∃ X, owns (c : Thread nD τ) (qM M a) q X) ∗ (∃ X, owns (c : Thread nD τ) (qM M b) q X)) ∗ restOf c M (pair a b) q)
      ⊢ (iprop(∃ X, owns (c : Thread nD τ) M q X) : sProp 𝕄) := by
    have H := owns_glue (F := F) c M (pair a b) (fun _ _ => rfl) (pair_disj h) q
    rw [bigSep_univ_eq_bigSepL [0, 1] (by decide) (by decide), bigSepL_cons_cons, bigSepL_singleton] at H
    exact H
  iintro ⟨Ha, Hb, Hr⟩
  iapply H
  isplitl [Ha Hb]
  · isplitl [Ha]
    · iexists Xa; iexact Ha
    · iexists Xb; iexact Hb
  iexact Hr

/-! ## The stage -/

omit [FloatOps F] in
theorem anyOf_elim {sp : Space} {s : Shape} {e : EltTy} (c : Dev nD) (M : Memref sig .tc sp s e) :
    (anyOf c M : sProp 𝕄) ⊢ iprop(∃ X, owns (c : Thread nD τ) M fullShare X) := .rfl
omit [FloatOps F] in
theorem anyOf_intro {sp : Space} {s : Shape} {e : EltTy} (c : Dev nD) (M : Memref sig .tc sp s e) (X : s.Idx → Elt F e) :
    (owns (c : Thread nD τ) M fullShare X : sProp 𝕄) ⊢ anyOf c M := by
  unfold anyOf
  iintro H; iexists X; iexact H

/-- Slots 0, 1 and 2 of the stage, as the copies out read them. -/
abbrev g0 : Memref sig .tc .vmem S1x1024x512 .f32 :=
  gM.slice (Rect.unit (s := S4x1024x512) ![0, 0, 0] S1x1024x512.size inb_S4x1024x512_S1x1024x512_0_0_0) (fun _ => rfl)
abbrev g1 : Memref sig .tc .vmem S1x1024x512 .f32 :=
  gM.slice (Rect.unit (s := S4x1024x512) ![1, 0, 0] S1x1024x512.size inb_S4x1024x512_S1x1024x512_1_0_0) (fun _ => rfl)
abbrev g2 : Memref sig .tc .vmem S1x1024x512 .f32 :=
  gM.slice (Rect.unit (s := S4x1024x512) ![2, 0, 0] S1x1024x512.size inb_S4x1024x512_S1x1024x512_2_0_0) (fun _ => rfl)
/-- The quarters of slot 3. -/
abbrev g3 : Memref sig .tc .vmem S1x256x512 .f32 :=
  gM.slice (Rect.unit (s := S4x1024x512) ![3, 0, 0] S1x256x512.size inb_S4x1024x512_S1x256x512_3_0_0) (fun _ => rfl)
abbrev g4 : Memref sig .tc .vmem S1x256x512 .f32 :=
  gM.slice (Rect.unit (s := S4x1024x512) ![3, 256, 0] S1x256x512.size inb_S4x1024x512_S1x256x512_3_256_0) (fun _ => rfl)
abbrev g5 : Memref sig .tc .vmem S1x256x512 .f32 :=
  gM.slice (Rect.unit (s := S4x1024x512) ![3, 512, 0] S1x256x512.size inb_S4x1024x512_S1x256x512_3_512_0) (fun _ => rfl)
abbrev g6 : Memref sig .tc .vmem S1x256x512 .f32 :=
  gM.slice (Rect.unit (s := S4x1024x512) ![3, 768, 0] S1x256x512.size inb_S4x1024x512_S1x256x512_3_768_0) (fun _ => rfl)

/-- A slot, or a quarter of one, without its first axis. -/
abbrev sqB (M : Memref sig .tc .vmem S1x1024x512 .f32) : Memref sig .tc .vmem S1024x512 .f32 := M.squeeze S1024x512 squeezes_S1x1024x512_S1024x512
abbrev sqQ (M : Memref sig .tc .vmem S1x256x512 .f32) : Memref sig .tc .vmem S256x512 .f32 := M.squeeze S256x512 squeezes_S1x256x512_S256x512
def flatB (X : S1x1024x512.Idx → Elt F .f32) : S1024x512.Idx → Elt F .f32 :=
  fun i => X (Shape.reshapeEquiv squeezes_S1x1024x512_S1024x512.numel_eq i)
def flatQ (X : S1x256x512.Idx → Elt F .f32) : S256x512.Idx → Elt F .f32 :=
  fun i => X (Shape.reshapeEquiv squeezes_S1x256x512_S256x512.numel_eq i)

/-- Where the result's blocks go. -/
abbrev o1 (c : Dev nD) : Memref sig .tc .hbm S1024x512 .f32 := oA.slice (Rect.unit (s := S4096x512) (k0_off1 c) S1024x512.size (k0_off1_inb c)) (fun _ => rfl)
abbrev o2 (c : Dev nD) : Memref sig .tc .hbm S1024x512 .f32 := oA.slice (Rect.unit (s := S4096x512) (k0_off2 c) S1024x512.size (k0_off2_inb c)) (fun _ => rfl)
abbrev o3 (c : Dev nD) : Memref sig .tc .hbm S1024x512 .f32 := oA.slice (Rect.unit (s := S4096x512) (k0_off3 c) S1024x512.size (k0_off3_inb c)) (fun _ => rfl)
abbrev o4 (c : Dev nD) : Memref sig .tc .hbm S256x512 .f32 := oA.slice (Rect.unit (s := S4096x512) (k0_off4 c 0#32) S256x512.size (k0_off4_inb c 0)) (fun _ => rfl)
abbrev o5 (c : Dev nD) : Memref sig .tc .hbm S256x512 .f32 := oA.slice (Rect.unit (s := S4096x512) (k0_off4 c 256#32) S256x512.size (k0_off4_inb c 1)) (fun _ => rfl)
abbrev o6 (c : Dev nD) : Memref sig .tc .hbm S256x512 .f32 := oA.slice (Rect.unit (s := S4096x512) (k0_off4 c 512#32) S256x512.size (k0_off4_inb c 2)) (fun _ => rfl)
abbrev o7 (c : Dev nD) : Memref sig .tc .hbm S256x512 .f32 := oA.slice (Rect.unit (s := S4096x512) (k0_off4 c 768#32) S256x512.size (k0_off4_inb c 3)) (fun _ => rfl)

/-- The device's own block stored and its copy out started; the left neighbour's block received and two of its quarters
passed on. -/
theorem part3_spec (v25 : BitVec 32) (v62 : Vec F S1024x512 .f32) {Q : _ → sProp 𝕄} :
    iprop(recs m ∗ owing c debts₂ ∗ (anyOf c g0 ∗ anyOf c (o1 c) ∗ zero c (.dma (outS 0))) ∗ pos c (.rcv 0) ∗ crd c (.rcv 0)
        ∗ (anyOf (right c) (qM dM 0) ∗ anyOf (right c) (qM dM 1))
        ∗ (tok c (.fsd 0, false) ∗ tok c (.frc 0, false) ∗ tok c (.fsd 1, false) ∗ tok c (.frc 1, false)))
      ⊢ iprop(((owing c debts₃ ∗ flight c (outS 0) (sqB g0) (o1 c) fullShare (flatB (k0_pay3 v62)) ∗ zero c (xsem (.rcv 0))
              ∗ (crd c (.fsd 0) ∗ crd c (.fsd 1))
              ∗ owns (c : Thread nD τ) lM fullShare.left (xin m (left c)) ∗ restOf c lM (pair 0 1) fullShare.right)
            -∗ Q ⟨⟩)
        -∗ wp frame (wpE (defs₀ (F := F)) 𝒱₀ (c : Thread nD τ) none) Set.univ (k0_part3 xA h0 wA h1 sA h2 tA h3 oA h4 xM h5 wM h6 lM h7 rM h8 dM h9 gM h10 cc0_scratch6 cc0_scratch7 cc0_scratch8 cc0_scratch9 cc0_scratch10 cc0_scratch11 c v25 v62) Q) := by
  rw [k0_part3_eq_skeleton]
  unfold k0_part3_skel
  simp only [Prog.lift, Prog.bind_op, Prog.bind_ret, Prog.pure_eq_ret]
  iintro ⟨#HR, HO, ⟨Hg, Ho, Hz⟩, Hpos, Hc, ⟨Hd0, Hd1⟩, HtS0, HtR0, HtS1, HtR1⟩ HQ
  ihave Hg := (anyOf_elim c g0) $$ Hg
  icases Hg with ⟨%G, Hg⟩
  iapply (step_load c (M' := g0) rfl) $$ Hg; iintro Hg
  iapply (step_store c (M' := g0) rfl) $$ Hg; iintro Hg
  ihave Hg := (owns_squeeze c g0 squeezes_S1x1024x512_S1024x512 fullShare _) $$ Hg
  iapply (step_copy c (sqB g0) (o1 c) (outS 0) rfl rfl rfl (View.dmaCredit_pos _ (by decide))) $$ [Hg Ho Hz]
  · isplitl [Hg]; · iexact Hg
    isplitl [Ho]; · iexact Ho
    iexact Hz
  iintro Hf
  iapply (step_await m c lM rfl debts₂ (.rcv 0) rfl tot_l (by decide)) $$ [Hpos Hc HO]
  · isplitr; · iexact HR
    isplitl [Hpos]; · iexact Hpos
    isplitl [Hc]; · iexact Hc
    iexact HO
  iintro ⟨HO, Hl, Hzr⟩
  have hg : (gain m c (.rcv 0) : sProp 𝕄) ⊢ owns (c : Thread nD τ) lM fullShare (xin m (left c)) := .rfl
  ihave Hl := hg $$ Hl
  ihave Hl := (halve c lM fullShare (xin m (left c))).1 $$ Hl
  icases Hl with ⟨Hl, Hlr⟩
  ihave Hlr := (pair_cut c lM (a := 0) (b := 1) (by decide) fullShare.right (xin m (left c))) $$ Hlr
  icases Hlr with ⟨Hl0, Hl1, Hlr⟩
  iapply (step_send m c (qM lM 0) (qM dM 0) rfl rfl (q := fullShare.right) (X := rowsOf (xin m (left c)) 0) ((.frc 1, false) :: debts₃) (.fsd 0) (.frc 0) (dev5_eq c) rfl rfl rfl (credit_q 0) rfl rfl
    .rfl (by
      show owns (right c : Thread nD τ) (qM dM 0) fullShare (rowsOf (xin m (left c)) 0) ⊢ owns (right c : Thread nD τ) (qM dM 0) fullShare (rowsOf (xin m (opp (right c))) 0)
      rw [opp_right])) $$ [Hl0 Hd0 HO HtS0 HtR0]
  · isplitr; · iexact HR
    isplitl [Hl0]; · iexact Hl0
    isplitl [Hd0]; · iexact Hd0
    isplitl [HO]; · iexact HO
    isplitl [HtS0]; · iexact HtS0
    iexact HtR0
  iintro ⟨Hc0, HO⟩
  iapply (step_send m c (qM lM 1) (qM dM 1) rfl rfl (q := fullShare.right) (X := rowsOf (xin m (left c)) 1) debts₃ (.fsd 1) (.frc 1) (dev6_eq c) rfl rfl rfl (credit_q 1) rfl rfl
    .rfl (by
      show owns (right c : Thread nD τ) (qM dM 1) fullShare (rowsOf (xin m (left c)) 1) ⊢ owns (right c : Thread nD τ) (qM dM 1) fullShare (rowsOf (xin m (opp (right c))) 1)
      rw [opp_right])) $$ [Hl1 Hd1 HO HtS1 HtR1]
  · isplitr; · iexact HR
    isplitl [Hl1]; · iexact Hl1
    isplitl [Hd1]; · iexact Hd1
    isplitl [HO]; · iexact HO
    isplitl [HtS1]; · iexact HtS1
    iexact HtR1
  iintro ⟨Hc1, HO⟩
  rw [wp_ret]
  imodintro
  iapply HQ
  isplitl [HO]; · iexact HO
  isplitl [Hf]; · iexact Hf
  isplitl [Hzr]; · iexact Hzr
  isplitl [Hc0 Hc1]; · isplitl [Hc0] <;> iassumption
  isplitl [Hl] <;> iassumption

/-- The right neighbour's block received and two of its quarters passed on; the left neighbour's block multiplied. -/
theorem part4_spec (v14 : BitVec 32) (v53 : F .f32) {Q : _ → sProp 𝕄} :
    iprop(recs m ∗ owing c debts₃ ∗ pos c (.rcv 1) ∗ crd c (.rcv 1)
        ∗ (anyOf (left c) (qM dM 2) ∗ anyOf (left c) (qM dM 3))
        ∗ (tok c (.fsd 2, false) ∗ tok c (.frc 2, false) ∗ tok c (.fsd 3, false) ∗ tok c (.frc 3, false))
        ∗ owns (c : Thread nD τ) lM fullShare.left (xin m (left c)) ∗ owns (c : Thread nD τ) wM fullShare (win m c))
      ⊢ iprop(((owing c [] ∗ zero c (xsem (.rcv 1)) ∗ (crd c (.fsd 2) ∗ crd c (.fsd 3))
              ∗ (owns (c : Thread nD τ) rM fullShare.left (xin m (right c)) ∗ restOf c rM (pair 2 3) fullShare.right)
              ∗ owns (c : Thread nD τ) lM fullShare.left (xin m (left c)) ∗ owns (c : Thread nD τ) wM fullShare (win m c))
            -∗ Q (k0_pay4 v53 (xin m (left c)) (win m c)))
        -∗ wp frame (wpE (defs₀ (F := F)) 𝒱₀ (c : Thread nD τ) none) Set.univ (k0_part4 xA h0 wA h1 sA h2 tA h3 oA h4 xM h5 wM h6 lM h7 rM h8 dM h9 gM h10 cc0_scratch6 cc0_scratch7 cc0_scratch8 cc0_scratch9 cc0_scratch10 cc0_scratch11 c v14 v53) Q) := by
  rw [k0_part4_eq_skeleton]
  unfold k0_part4_skel
  simp only [Prog.lift, Prog.bind_op, Prog.bind_ret, Prog.pure_eq_ret]
  iintro ⟨#HR, HO, Hpos, Hc, ⟨Hd2, Hd3⟩, ⟨HtS2, HtR2, HtS3, HtR3⟩, Hll, HW⟩ HQ
  iapply (step_await m c rM rfl debts₃ (.rcv 1) rfl tot_r (by decide)) $$ [Hpos Hc HO]
  · isplitr; · iexact HR
    isplitl [Hpos]; · iexact Hpos
    isplitl [Hc]; · iexact Hc
    iexact HO
  iintro ⟨HO, Hl, Hzr⟩
  have hg : (gain m c (.rcv 1) : sProp 𝕄) ⊢ owns (c : Thread nD τ) rM fullShare (xin m (right c)) := .rfl
  ihave Hl := hg $$ Hl
  ihave Hl := (halve c rM fullShare (xin m (right c))).1 $$ Hl
  icases Hl with ⟨Hl, Hlr⟩
  ihave Hlr := (pair_cut c rM (a := 2) (b := 3) (by decide) fullShare.right (xin m (right c))) $$ Hlr
  icases Hlr with ⟨Hl0, Hl1, Hlr⟩
  iapply (step_send m c (qM rM 2) (qM dM 2) rfl rfl (q := fullShare.right) (X := rowsOf (xin m (right c)) 2) [(.frc 3, false)] (.fsd 2) (.frc 2) (dev7_eq c) rfl rfl rfl (credit_q 2) rfl rfl
    .rfl (by
      show owns (left c : Thread nD τ) (qM dM 2) fullShare (rowsOf (xin m (right c)) 2) ⊢ owns (left c : Thread nD τ) (qM dM 2) fullShare (rowsOf (xin m (opp (left c))) 2)
      rw [opp_left])) $$ [Hl0 Hd2 HO HtS2 HtR2]
  · isplitr; · iexact HR
    isplitl [Hl0]; · iexact Hl0
    isplitl [Hd2]; · iexact Hd2
    isplitl [HO]; · iexact HO
    isplitl [HtS2]; · iexact HtS2
    iexact HtR2
  iintro ⟨Hc0, HO⟩
  iapply (step_send m c (qM rM 3) (qM dM 3) rfl rfl (q := fullShare.right) (X := rowsOf (xin m (right c)) 3) [] (.fsd 3) (.frc 3) (dev8_eq c) rfl rfl rfl (credit_q 3) rfl rfl
    .rfl (by
      show owns (left c : Thread nD τ) (qM dM 3) fullShare (rowsOf (xin m (right c)) 3) ⊢ owns (left c : Thread nD τ) (qM dM 3) fullShare (rowsOf (xin m (opp (left c))) 3)
      rw [opp_left])) $$ [Hl1 Hd3 HO HtS3 HtR3]
  · isplitr; · iexact HR
    isplitl [Hl1]; · iexact Hl1
    isplitl [Hd3]; · iexact Hd3
    isplitl [HO]; · iexact HO
    isplitl [HtS3]; · iexact HtS3
    iexact HtR3
  iintro ⟨Hc1, HO⟩
  iapply (step_load_all c (M := lM) (by decide) inb_S1024x4096_S1024x4096_0_0) $$ Hll; iintro Hll
  iapply (step_load_all c (M := wM) (by decide) inb_S4096x512_S4096x512_0_0) $$ HW; iintro HW
  rw [wp_ret]
  imodintro
  iapply HQ
  isplitl [HO]; · iexact HO
  isplitl [Hzr]; · iexact Hzr
  isplitl [Hc0 Hc1]; · isplitl [Hc0] <;> iassumption
  isplitl [Hl Hlr]; · isplitl [Hl] <;> iassumption
  isplitl [Hll] <;> iassumption

end Cert.KernelIdeal.Exchange

end
-- ==== Proof.Second.lean ====
/-
The second half of a device's program: the products of what the neighbours and the opposite device sent, and the waits for
everything still under way.
-/
module

public import proofs.«01_k».proof.Proof.First

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)
variable (h0 : xA.IsWhole) (h1 : wA.IsWhole) (h2 : sA.IsWhole) (h3 : tA.IsWhole) (h4 : oA.IsWhole) (h5 : xM.IsWhole)
  (h6 : wM.IsWhole) (h7 : lM.IsWhole) (h8 : rM.IsWhole) (h9 : dM.IsWhole) (h10 : gM.IsWhole)

/-! ## The neighbours' blocks -/

/-- The left neighbour's product stored and its copy out started, the right neighbour's block multiplied, stored, its copy out
started. -/
theorem part5_spec (v2 v25 : BitVec 32) (v53 : F .f32) (v119 : FVec F S1024x512 .f32) {Q : _ → sProp 𝕄} :
    iprop((anyOf c g1 ∗ anyOf c (o2 c) ∗ zero c (.dma (outS 1))) ∗ (anyOf c g2 ∗ anyOf c (o3 c) ∗ zero c (.dma (outS 2)))
        ∗ owns (c : Thread nD τ) rM fullShare.left (xin m (right c)) ∗ owns (c : Thread nD τ) wM fullShare (win m c))
      ⊢ iprop((∀ v147 v148, (flight c (outS 1) (sqB g1) (o2 c) fullShare (flatB (k0_pay5 v119))
              ∗ flight c (outS 2) (sqB g2) (o3 c) fullShare (flatB (k0_pay6 v53 (xin m (right c)) (win m c)))
              ∗ owns (c : Thread nD τ) rM fullShare.left (xin m (right c)) ∗ owns (c : Thread nD τ) wM fullShare (win m c)) -∗ Q ⟨v147, v148, 0#32⟩)
        -∗ wp frame (wpE (defs₀ (F := F)) 𝒱₀ (c : Thread nD τ) none) Set.univ (k0_part5 xA h0 wA h1 sA h2 tA h3 oA h4 xM h5 wM h6 lM h7 rM h8 dM h9 gM h10 cc0_scratch6 cc0_scratch7 cc0_scratch8 cc0_scratch9 cc0_scratch10 cc0_scratch11 c v2 v25 v53 v119) Q) := by
  rw [k0_part5_eq_skeleton]
  unfold k0_part5_skel
  simp only [Prog.lift, Prog.bind_op, Prog.bind_ret, Prog.pure_eq_ret]
  iintro ⟨⟨Hg, Ho, Hz⟩, ⟨Hg', Ho', Hz'⟩, HX, HW⟩ HQ
  ihave Hg := (anyOf_elim c g1) $$ Hg
  icases Hg with ⟨%GHg, Hg⟩
  iapply (step_load c (M' := g1) rfl) $$ Hg; iintro Hg
  iapply (step_store c (M' := g1) rfl) $$ Hg; iintro Hg
  ihave Hg := (owns_squeeze c g1 squeezes_S1x1024x512_S1024x512 fullShare _) $$ Hg
  iapply (step_copy c (sqB g1) (o2 c) (outS 1) rfl rfl rfl (View.dmaCredit_pos _ (by decide))) $$ [Hg Ho Hz]
  · isplitl [Hg]; · iexact Hg
    isplitl [Ho]; · iexact Ho
    iexact Hz
  iintro Hf
  iapply (step_load_all c (M := rM) (by decide) inb_S1024x4096_S1024x4096_0_0) $$ HX; iintro HX
  iapply (step_load_all c (M := wM) (by decide) inb_S4096x512_S4096x512_0_0) $$ HW; iintro HW
  ihave Hg' := (anyOf_elim c g2) $$ Hg'
  icases Hg' with ⟨%GHg', Hg'⟩
  iapply (step_load c (M' := g2) rfl) $$ Hg'; iintro Hg'
  iapply (step_store c (M' := g2) rfl) $$ Hg'; iintro Hg'
  ihave Hg' := (owns_squeeze c g2 squeezes_S1x1024x512_S1024x512 fullShare _) $$ Hg'
  iapply (step_copy c (sqB g2) (o3 c) (outS 2) rfl rfl rfl (View.dmaCredit_pos _ (by decide))) $$ [Hg' Ho' Hz']
  · isplitl [Hg']; · iexact Hg'
    isplitl [Ho']; · iexact Ho'
    iexact Hz'
  iintro Hf'
  rw [wp_ret]
  imodintro
  iapply HQ
  isplitl [Hf]; · iexact Hf
  isplitl [Hf']; · iexact Hf'
  isplitl [HX]; · iexact HX
  iexact HW

/-! ## The opposite device's quarters -/

/-- The first quarter received, multiplied, stored, its copy out started. -/
theorem part6_spec (v25 : BitVec 32) (v53 : F .f32) (v147 v148 v : BitVec 32) {Q : _ → sProp 𝕄} :
    iprop(recs m ∗ owing c [] ∗ (pos c (.frc 0) ∗ crd c (.frc 0)) ∗ (anyOf c g3 ∗ anyOf c (o4 c) ∗ zero c (.dma (outS 3))) ∗ owns (c : Thread nD τ) wM fullShare (win m c))
      ⊢ iprop((∀ v, (owing c [] ∗ (zero c (xsem (.frc 0)) ∗ owns (c : Thread nD τ) (qM dM 0) fullShare (rowsOf (xin m (opp c)) 0))
              ∗ flight c (outS 3) (sqQ g3) (o4 c) fullShare (flatQ (k0_pay7 v53 (rowsOf (xin m (opp c)) 0) (win m c))) ∗ owns (c : Thread nD τ) wM fullShare (win m c)) -∗ Q v)
        -∗ wp frame (wpE (defs₀ (F := F)) 𝒱₀ (c : Thread nD τ) none) Set.univ (k0_part6 xA h0 wA h1 sA h2 tA h3 oA h4 xM h5 wM h6 lM h7 rM h8 dM h9 gM h10 cc0_scratch6 cc0_scratch7 cc0_scratch8 cc0_scratch9 cc0_scratch10 cc0_scratch11 c v25 v53 v147 v148 v) Q) := by
  rw [k0_part6_eq_skeleton]
  unfold k0_part6_skel
  simp only [Prog.lift, Prog.bind_op, Prog.bind_ret, Prog.pure_eq_ret]
  iintro ⟨#HR, HO, ⟨Hpos, Hc⟩, ⟨Hg, Ho, Hz⟩, HW⟩ HQ
  iapply (step_await m c (qM dM 0) rfl [] (.frc 0) rfl (tot_q 0) (by decide)) $$ [Hpos Hc HO]
  · isplitr; · iexact HR
    isplitl [Hpos]; · iexact Hpos
    isplitl [Hc]; · iexact Hc
    iexact HO
  iintro ⟨HO, Hd, Hzr⟩
  ihave Hd := (show (gain m c (.frc 0) : sProp 𝕄) ⊢ owns (c : Thread nD τ) (qM dM 0) fullShare (rowsOf (xin m (opp c)) 0) from .rfl) $$ Hd
  iapply (step_load c (M' := qM dM 0) rfl) $$ Hd; iintro Hd
  iapply (step_load_all c (M := wM) (by decide) inb_S4096x512_S4096x512_0_0) $$ HW; iintro HW
  ihave Hg := (anyOf_elim c g3) $$ Hg
  icases Hg with ⟨%GHg, Hg⟩
  iapply (step_load c (M' := g3) rfl) $$ Hg; iintro Hg
  iapply (step_store c (M' := g3) rfl) $$ Hg; iintro Hg
  ihave Hg := (owns_squeeze c g3 squeezes_S1x256x512_S256x512 fullShare _) $$ Hg
  iapply (step_copy c (sqQ g3) (o4 c) (outS 3) rfl rfl rfl (View.dmaCredit_pos _ (by decide))) $$ [Hg Ho Hz]
  · isplitl [Hg]; · iexact Hg
    isplitl [Ho]; · iexact Ho
    iexact Hz
  iintro Hf
  rw [wp_ret]
  imodintro
  iapply HQ
  isplitl [HO]; · iexact HO
  isplitl [Hzr Hd]; · isplitl [Hzr] <;> iassumption
  isplitl [Hf]; · iexact Hf
  iexact HW

/-- The third quarter likewise. -/
theorem part7_spec (v14 v25 : BitVec 32) (v53 : F .f32) (v155 : BitVec 32) {Q : _ → sProp 𝕄} :
    iprop(recs m ∗ owing c [] ∗ (pos c (.frc 2) ∗ crd c (.frc 2)) ∗ (anyOf c g5 ∗ anyOf c (o6 c) ∗ zero c (.dma (outS 5))) ∗ owns (c : Thread nD τ) wM fullShare (win m c))
      ⊢ iprop(((owing c [] ∗ (zero c (xsem (.frc 2)) ∗ owns (c : Thread nD τ) (qM dM 2) fullShare (rowsOf (xin m (opp c)) 2))
              ∗ flight c (outS 5) (sqQ g5) (o6 c) fullShare (flatQ (k0_pay8 v53 (rowsOf (xin m (opp c)) 2) (win m c))) ∗ owns (c : Thread nD τ) wM fullShare (win m c)) -∗ Q ⟨⟩)
        -∗ wp frame (wpE (defs₀ (F := F)) 𝒱₀ (c : Thread nD τ) none) Set.univ (k0_part7 xA h0 wA h1 sA h2 tA h3 oA h4 xM h5 wM h6 lM h7 rM h8 dM h9 gM h10 cc0_scratch6 cc0_scratch7 cc0_scratch8 cc0_scratch9 cc0_scratch10 cc0_scratch11 c v14 v25 v53 v155) Q) := by
  rw [k0_part7_eq_skeleton]
  unfold k0_part7_skel
  simp only [Prog.lift, Prog.bind_op, Prog.bind_ret, Prog.pure_eq_ret]
  iintro ⟨#HR, HO, ⟨Hpos, Hc⟩, ⟨Hg, Ho, Hz⟩, HW⟩ HQ
  iapply (step_await m c (qM dM 2) rfl [] (.frc 2) rfl (tot_q 2) (by decide)) $$ [Hpos Hc HO]
  · isplitr; · iexact HR
    isplitl [Hpos]; · iexact Hpos
    isplitl [Hc]; · iexact Hc
    iexact HO
  iintro ⟨HO, Hd, Hzr⟩
  ihave Hd := (show (gain m c (.frc 2) : sProp 𝕄) ⊢ owns (c : Thread nD τ) (qM dM 2) fullShare (rowsOf (xin m (opp c)) 2) from .rfl) $$ Hd
  iapply (step_load c (M' := qM dM 2) rfl) $$ Hd; iintro Hd
  iapply (step_load_all c (M := wM) (by decide) inb_S4096x512_S4096x512_0_0) $$ HW; iintro HW
  ihave Hg := (anyOf_elim c g5) $$ Hg
  icases Hg with ⟨%GHg, Hg⟩
  iapply (step_load c (M' := g5) rfl) $$ Hg; iintro Hg
  iapply (step_store c (M' := g5) rfl) $$ Hg; iintro Hg
  ihave Hg := (owns_squeeze c g5 squeezes_S1x256x512_S256x512 fullShare _) $$ Hg
  iapply (step_copy c (sqQ g5) (o6 c) (outS 5) rfl rfl rfl (View.dmaCredit_pos _ (by decide))) $$ [Hg Ho Hz]
  · isplitl [Hg]; · iexact Hg
    isplitl [Ho]; · iexact Ho
    iexact Hz
  iintro Hf
  rw [wp_ret]
  imodintro
  iapply HQ
  isplitl [HO]; · iexact HO
  isplitl [Hzr Hd]; · isplitl [Hzr] <;> iassumption
  isplitl [Hf]; · iexact Hf
  iexact HW

/-- The second quarter likewise, and the fourth received. -/
theorem part8_spec (v14 : BitVec 32) (v53 : F .f32) (v155 : BitVec 32) {Q : _ → sProp 𝕄} :
    iprop(recs m ∗ owing c [] ∗ (pos c (.frc 1) ∗ crd c (.frc 1)) ∗ (anyOf c g4 ∗ anyOf c (o5 c) ∗ zero c (.dma (outS 4))) ∗ owns (c : Thread nD τ) wM fullShare (win m c)
        ∗ pos c (.frc 3) ∗ crd c (.frc 3))
      ⊢ iprop((∀ v, (owing c [] ∗ (zero c (xsem (.frc 1)) ∗ owns (c : Thread nD τ) (qM dM 1) fullShare (rowsOf (xin m (opp c)) 1))
              ∗ flight c (outS 4) (sqQ g4) (o5 c) fullShare (flatQ (k0_pay9 v53 (rowsOf (xin m (opp c)) 1) (win m c))) ∗ owns (c : Thread nD τ) wM fullShare (win m c)
              ∗ zero c (xsem (.frc 3)) ∗ owns (c : Thread nD τ) (qM dM 3) fullShare (rowsOf (xin m (opp c)) 3)) -∗ Q ⟨v, 768#32⟩)
        -∗ wp frame (wpE (defs₀ (F := F)) 𝒱₀ (c : Thread nD τ) none) Set.univ (k0_part8 xA h0 wA h1 sA h2 tA h3 oA h4 xM h5 wM h6 lM h7 rM h8 dM h9 gM h10 cc0_scratch6 cc0_scratch7 cc0_scratch8 cc0_scratch9 cc0_scratch10 cc0_scratch11 c v14 v53 v155) Q) := by
  rw [k0_part8_eq_skeleton]
  unfold k0_part8_skel
  simp only [Prog.lift, Prog.bind_op, Prog.bind_ret, Prog.pure_eq_ret]
  iintro ⟨#HR, HO, ⟨Hpos, Hc⟩, ⟨Hg, Ho, Hz⟩, HW, Hpos', Hc'⟩ HQ
  iapply (step_await m c (qM dM 1) rfl [] (.frc 1) rfl (tot_q 1) (by decide)) $$ [Hpos Hc HO]
  · isplitr; · iexact HR
    isplitl [Hpos]; · iexact Hpos
    isplitl [Hc]; · iexact Hc
    iexact HO
  iintro ⟨HO, Hd, Hzr⟩
  ihave Hd := (show (gain m c (.frc 1) : sProp 𝕄) ⊢ owns (c : Thread nD τ) (qM dM 1) fullShare (rowsOf (xin m (opp c)) 1) from .rfl) $$ Hd
  iapply (step_load c (M' := qM dM 1) rfl) $$ Hd; iintro Hd
  iapply (step_load_all c (M := wM) (by decide) inb_S4096x512_S4096x512_0_0) $$ HW; iintro HW
  ihave Hg := (anyOf_elim c g4) $$ Hg
  icases Hg with ⟨%GHg, Hg⟩
  iapply (step_load c (M' := g4) rfl) $$ Hg; iintro Hg
  iapply (step_store c (M' := g4) rfl) $$ Hg; iintro Hg
  ihave Hg := (owns_squeeze c g4 squeezes_S1x256x512_S256x512 fullShare _) $$ Hg
  iapply (step_copy c (sqQ g4) (o5 c) (outS 4) rfl rfl rfl (View.dmaCredit_pos _ (by decide))) $$ [Hg Ho Hz]
  · isplitl [Hg]; · iexact Hg
    isplitl [Ho]; · iexact Ho
    iexact Hz
  iintro Hf
  iapply (step_await m c (qM dM 3) rfl [] (.frc 3) rfl (tot_q 3) (by decide)) $$ [Hpos' Hc' HO]
  · isplitr; · iexact HR
    isplitl [Hpos']; · iexact Hpos'
    isplitl [Hc']; · iexact Hc'
    iexact HO
  iintro ⟨HO, Hd', Hzr'⟩
  ihave Hd' := (show (gain m c (.frc 3) : sProp 𝕄) ⊢ owns (c : Thread nD τ) (qM dM 3) fullShare (rowsOf (xin m (opp c)) 3) from .rfl) $$ Hd'
  rw [wp_ret]
  imodintro
  iapply HQ
  isplitl [HO]; · iexact HO
  isplitl [Hzr Hd]; · isplitl [Hzr] <;> iassumption
  isplitl [Hf]; · iexact Hf
  isplitl [HW]; · iexact HW
  isplitl [Hzr']; · iexact Hzr'
  iexact Hd'

/-- The fourth quarter multiplied, stored, its copy out started; both sends of the first hop and the first of the second
complete. -/
theorem part9_spec (v53 : F .f32) (v234 w : BitVec 32) {Q : _ → sProp 𝕄} :
    iprop(recs m ∗ owing c [] ∗ owns (c : Thread nD τ) (qM dM 3) fullShare (rowsOf (xin m (opp c)) 3) ∗ (anyOf c g6 ∗ anyOf c (o7 c) ∗ zero c (.dma (outS 6))) ∗ owns (c : Thread nD τ) wM fullShare (win m c)
        ∗ (pos c (.snd 0) ∗ crd c (.snd 0)) ∗ (pos c (.snd 1) ∗ crd c (.snd 1)) ∗ pos c (.fsd 0) ∗ crd c (.fsd 0))
      ⊢ iprop(((owing c [] ∗ owns (c : Thread nD τ) (qM dM 3) fullShare (rowsOf (xin m (opp c)) 3)
              ∗ flight c (outS 6) (sqQ g6) (o7 c) fullShare (flatQ (k0_pay10 v53 (rowsOf (xin m (opp c)) 3) (win m c))) ∗ owns (c : Thread nD τ) wM fullShare (win m c)
              ∗ (zero c (xsem (.snd 0)) ∗ owns (c : Thread nD τ) xM fullShare.right.left (xin m c))
              ∗ (zero c (xsem (.snd 1)) ∗ owns (c : Thread nD τ) xM fullShare.right.right (xin m c))
              ∗ zero c (xsem (.fsd 0)) ∗ owns (c : Thread nD τ) (qM lM 0) fullShare.right (rowsOf (xin m (left c)) 0)) -∗ Q ⟨⟩)
        -∗ wp frame (wpE (defs₀ (F := F)) 𝒱₀ (c : Thread nD τ) none) Set.univ (k0_part9 xA h0 wA h1 sA h2 tA h3 oA h4 xM h5 wM h6 lM h7 rM h8 dM h9 gM h10 cc0_scratch6 cc0_scratch7 cc0_scratch8 cc0_scratch9 cc0_scratch10 cc0_scratch11 c v53 v234 w) Q) := by
  rw [k0_part9_eq_skeleton]
  unfold k0_part9_skel
  simp only [Prog.lift, Prog.bind_op, Prog.bind_ret, Prog.pure_eq_ret]
  iintro ⟨#HR, HO, Hd, ⟨Hg, Ho, Hz⟩, HW, ⟨Hp0, Hc0⟩, ⟨Hp1, Hc1⟩, Hp2, Hc2⟩ HQ
  iapply (step_load c (M' := qM dM 3) rfl) $$ Hd; iintro Hd
  iapply (step_load_all c (M := wM) (by decide) inb_S4096x512_S4096x512_0_0) $$ HW; iintro HW
  ihave Hg := (anyOf_elim c g6) $$ Hg
  icases Hg with ⟨%GHg, Hg⟩
  iapply (step_load c (M' := g6) rfl) $$ Hg; iintro Hg
  iapply (step_store c (M' := g6) rfl) $$ Hg; iintro Hg
  ihave Hg := (owns_squeeze c g6 squeezes_S1x256x512_S256x512 fullShare _) $$ Hg
  iapply (step_copy c (sqQ g6) (o7 c) (outS 6) rfl rfl rfl (View.dmaCredit_pos _ (by decide))) $$ [Hg Ho Hz]
  · isplitl [Hg]; · iexact Hg
    isplitl [Ho]; · iexact Ho
    iexact Hz
  iintro Hf
  iapply (step_await m c (xM) rfl [] (.snd 0) rfl (tot_s 0) (by decide)) $$ [Hp0 Hc0 HO]
  · isplitr; · iexact HR
    isplitl [Hp0]; · iexact Hp0
    isplitl [Hc0]; · iexact Hc0
    iexact HO
  iintro ⟨HO, Hx0, Hz0⟩
  ihave Hx0 := (show (gain m c (.snd 0) : sProp 𝕄) ⊢ owns (c : Thread nD τ) xM fullShare.right.left (xin m c) from .rfl) $$ Hx0
  iapply (step_await m c (xM) rfl [] (.snd 1) rfl (tot_s 1) (by decide)) $$ [Hp1 Hc1 HO]
  · isplitr; · iexact HR
    isplitl [Hp1]; · iexact Hp1
    isplitl [Hc1]; · iexact Hc1
    iexact HO
  iintro ⟨HO, Hx1, Hz1⟩
  ihave Hx1 := (show (gain m c (.snd 1) : sProp 𝕄) ⊢ owns (c : Thread nD τ) xM fullShare.right.right (xin m c) from .rfl) $$ Hx1
  iapply (step_await m c (qM lM 0) rfl [] (.fsd 0) rfl (tot_lf 0) (by decide)) $$ [Hp2 Hc2 HO]
  · isplitr; · iexact HR
    isplitl [Hp2]; · iexact Hp2
    isplitl [Hc2]; · iexact Hc2
    iexact HO
  iintro ⟨HO, Hx2, Hz2⟩
  ihave Hx2 := (show (gain m c (.fsd 0) : sProp 𝕄) ⊢ owns (c : Thread nD τ) (qM lM 0) fullShare.right (rowsOf (xin m (left c)) 0) from .rfl) $$ Hx2
  rw [wp_ret]
  imodintro
  iapply HQ
  isplitl [HO]; · iexact HO
  isplitl [Hd]; · iexact Hd
  isplitl [Hf]; · iexact Hf
  isplitl [HW]; · iexact HW
  isplitl [Hz0 Hx0]; · isplitl [Hz0] <;> iassumption
  isplitl [Hz1 Hx1]; · isplitl [Hz1] <;> iassumption
  isplitl [Hz2] <;> iassumption

/-! ## Everything arrives -/

/-- The other sends of the second hop complete, and the first two copies out. -/
theorem part10_spec (X0 X1 : S1024x512.Idx → Elt F .f32) {Q : _ → sProp 𝕄} :
    iprop(recs m ∗ owing c [] ∗ (pos c (.fsd 1) ∗ crd c (.fsd 1)) ∗ (pos c (.fsd 2) ∗ crd c (.fsd 2)) ∗ (pos c (.fsd 3) ∗ crd c (.fsd 3))
        ∗ flight c (outS 0) (sqB g0) (o1 c) fullShare X0 ∗ flight c (outS 1) (sqB g1) (o2 c) fullShare X1)
      ⊢ iprop(((owing c [] ∗ (zero c (xsem (.fsd 1)) ∗ owns (c : Thread nD τ) (qM lM 1) fullShare.right (rowsOf (xin m (left c)) 1))
              ∗ (zero c (xsem (.fsd 2)) ∗ owns (c : Thread nD τ) (qM rM 2) fullShare.right (rowsOf (xin m (right c)) 2))
              ∗ (zero c (xsem (.fsd 3)) ∗ owns (c : Thread nD τ) (qM rM 3) fullShare.right (rowsOf (xin m (right c)) 3))
              ∗ (owns (c : Thread nD τ) (o1 c) fullShare (X0) ∗ owns (c : Thread nD τ) (sqB g0) fullShare (X0) ∗ zero c (.dma (outS 0)))
              ∗ owns (c : Thread nD τ) (o2 c) fullShare (X1) ∗ owns (c : Thread nD τ) (sqB g1) fullShare (X1) ∗ zero c (.dma (outS 1))) -∗ Q ⟨⟩)
        -∗ wp frame (wpE (defs₀ (F := F)) 𝒱₀ (c : Thread nD τ) none) Set.univ (k0_part10 xA h0 wA h1 sA h2 tA h3 oA h4 xM h5 wM h6 lM h7 rM h8 dM h9 gM h10 cc0_scratch6 cc0_scratch7 cc0_scratch8 cc0_scratch9 cc0_scratch10 cc0_scratch11 c) Q) := by
  rw [k0_part10_eq_skeleton]
  unfold k0_part10_skel
  simp only [Prog.lift, Prog.bind_op, Prog.bind_ret, Prog.pure_eq_ret]
  iintro ⟨#HR, HO, ⟨Hp1, Hc1⟩, ⟨Hp2, Hc2⟩, ⟨Hp3, Hc3⟩, Hf0, Hf1⟩ HQ
  iapply (step_await m c (qM lM 1) rfl [] (.fsd 1) rfl (tot_lf 1) (by decide)) $$ [Hp1 Hc1 HO]
  · isplitr; · iexact HR
    isplitl [Hp1]; · iexact Hp1
    isplitl [Hc1]; · iexact Hc1
    iexact HO
  iintro ⟨HO, Hx1, Hz1⟩
  ihave Hx1 := (show (gain m c (.fsd 1) : sProp 𝕄) ⊢ owns (c : Thread nD τ) (qM lM 1) fullShare.right (rowsOf (xin m (left c)) 1) from .rfl) $$ Hx1
  iapply (step_await m c (qM rM 2) rfl [] (.fsd 2) rfl (tot_rf 2) (by decide)) $$ [Hp2 Hc2 HO]
  · isplitr; · iexact HR
    isplitl [Hp2]; · iexact Hp2
    isplitl [Hc2]; · iexact Hc2
    iexact HO
  iintro ⟨HO, Hx2, Hz2⟩
  ihave Hx2 := (show (gain m c (.fsd 2) : sProp 𝕄) ⊢ owns (c : Thread nD τ) (qM rM 2) fullShare.right (rowsOf (xin m (right c)) 2) from .rfl) $$ Hx2
  iapply (step_await m c (qM rM 3) rfl [] (.fsd 3) rfl (tot_rf 3) (by decide)) $$ [Hp3 Hc3 HO]
  · isplitr; · iexact HR
    isplitl [Hp3]; · iexact Hp3
    isplitl [Hc3]; · iexact Hc3
    iexact HO
  iintro ⟨HO, Hx3, Hz3⟩
  ihave Hx3 := (show (gain m c (.fsd 3) : sProp 𝕄) ⊢ owns (c : Thread nD τ) (qM rM 3) fullShare.right (rowsOf (xin m (right c)) 3) from .rfl) $$ Hx3
  iapply (step_copied m c (o1 c) (outS 0) rfl rfl [] (outS_ne 0) (by decide)) $$ [Hf0 HO]
  · isplitr; · iexact HR
    isplitl [Hf0]; · iexact Hf0
    iexact HO
  iintro ⟨⟨Ho0, Hg0⟩, Hy0, HO⟩
  iapply (step_copied m c (o2 c) (outS 1) rfl rfl [] (outS_ne 1) (by decide)) $$ [Hf1 HO]
  · isplitr; · iexact HR
    isplitl [Hf1]; · iexact Hf1
    iexact HO
  iintro ⟨⟨Ho1, Hg1⟩, Hy1, HO⟩
  rw [wp_ret]
  imodintro
  iapply HQ
  isplitl [HO]; · iexact HO
  isplitl [Hz1 Hx1]; · isplitl [Hz1] <;> iassumption
  isplitl [Hz2 Hx2]; · isplitl [Hz2] <;> iassumption
  isplitl [Hz3 Hx3]; · isplitl [Hz3] <;> iassumption
  isplitl [Ho0 Hg0 Hy0]; · isplitl [Ho0]; · iexact Ho0
                           isplitl [Hg0] <;> iassumption
  isplitl [Ho1]; · iexact Ho1
  isplitl [Hg1] <;> iassumption

end Cert.KernelIdeal.Exchange

end
-- ==== Proof.Body.lean ====
/-
A device's whole program, from what it holds at the start to what it holds at the end.
-/
module

public import proofs.«01_k».proof.Proof.Second

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## The stage and the result in seven pieces each -/

/-- The stage's pieces: three slots and the quarters of the fourth. -/
def gR (t : Fin 7) : Rect S4x1024x512 := match t with
  | 0 => Rect.unit (s := S4x1024x512) ![0, 0, 0] S1x1024x512.size inb_S4x1024x512_S1x1024x512_0_0_0
  | 1 => Rect.unit (s := S4x1024x512) ![1, 0, 0] S1x1024x512.size inb_S4x1024x512_S1x1024x512_1_0_0
  | 2 => Rect.unit (s := S4x1024x512) ![2, 0, 0] S1x1024x512.size inb_S4x1024x512_S1x1024x512_2_0_0
  | 3 => Rect.unit (s := S4x1024x512) ![3, 0, 0] S1x256x512.size inb_S4x1024x512_S1x256x512_3_0_0
  | 4 => Rect.unit (s := S4x1024x512) ![3, 256, 0] S1x256x512.size inb_S4x1024x512_S1x256x512_3_256_0
  | 5 => Rect.unit (s := S4x1024x512) ![3, 512, 0] S1x256x512.size inb_S4x1024x512_S1x256x512_3_512_0
  | 6 => Rect.unit (s := S4x1024x512) ![3, 768, 0] S1x256x512.size inb_S4x1024x512_S1x256x512_3_768_0

/-- The result's: three blocks of rows and the quarters of a fourth. -/
def oR (c : Dev nD) (t : Fin 7) : Rect S4096x512 := match t with
  | 0 => Rect.unit (s := S4096x512) (k0_off1 c) S1024x512.size (k0_off1_inb c)
  | 1 => Rect.unit (s := S4096x512) (k0_off2 c) S1024x512.size (k0_off2_inb c)
  | 2 => Rect.unit (s := S4096x512) (k0_off3 c) S1024x512.size (k0_off3_inb c)
  | 3 => Rect.unit (s := S4096x512) (k0_off4 c 0#32) S256x512.size (k0_off4_inb c 0)
  | 4 => Rect.unit (s := S4096x512) (k0_off4 c 256#32) S256x512.size (k0_off4_inb c 1)
  | 5 => Rect.unit (s := S4096x512) (k0_off4 c 512#32) S256x512.size (k0_off4_inb c 2)
  | 6 => Rect.unit (s := S4096x512) (k0_off4 c 768#32) S256x512.size (k0_off4_inb c 3)

theorem gR_unit : ∀ t a, (gR t).stride a = 1 := fun t => by fin_cases t <;> exact fun _ => rfl
theorem oR_unit (c : Dev nD) : ∀ t a, (oR c t).stride a = 1 := fun t => by fin_cases t <;> exact fun _ => rfl

theorem gR_disj (t t' : Fin 7) (h : t ≠ t') : Disjoint (gR t).set (gR t').set := by
  have H : ∀ t t' : Fin 7, t ≠ t' →
      ((gR t).off 0 + (gR t).size 0 ≤ (gR t').off 0 ∨ (gR t').off 0 + (gR t').size 0 ≤ (gR t).off 0)
      ∨ ((gR t).off 1 + (gR t).size 1 ≤ (gR t').off 1 ∨ (gR t').off 1 + (gR t').size 1 ≤ (gR t).off 1) := by decide +kernel
  rcases H t t' h with h | h
  · exact disjoint_of_apart _ _ (gR_unit t) (gR_unit t') 0 h
  · exact disjoint_of_apart _ _ (gR_unit t) (gR_unit t') 1 h

theorem oR_disj (c : Dev nD) (t t' : Fin 7) (h : t ≠ t') : Disjoint (oR c t).set (oR c t').set := by
  have H : ∀ (c : Dev nD) (t t' : Fin 7), t ≠ t' →
      (oR c t).off 0 + (oR c t).size 0 ≤ (oR c t').off 0 ∨ (oR c t').off 0 + (oR c t').size 0 ≤ (oR c t).off 0 := by decide +kernel
  exact disjoint_of_apart _ _ (oR_unit c t) (oR_unit c t') 0 (H c t t' h)

omit [FloatOps F] in
/-- The stage, cut. -/
theorem stage_cut : (anyOf c gM : sProp 𝕄) ⊢ iprop((anyOf c g0 ∗ anyOf c g1 ∗ anyOf c g2 ∗ anyOf c g3 ∗ anyOf c g4 ∗ anyOf c g5 ∗ anyOf c g6) ∗ restOf c gM gR fullShare) := by
  have H : ∀ X, (owns (c : Thread nD τ) gM fullShare X : sProp 𝕄)
      ⊢ iprop((owns (c : Thread nD τ) g0 fullShare (fun i => X ((gR 0).emb i)) ∗ owns (c : Thread nD τ) g1 fullShare (fun i => X ((gR 1).emb i)) ∗ owns (c : Thread nD τ) g2 fullShare (fun i => X ((gR 2).emb i)) ∗ owns (c : Thread nD τ) g3 fullShare (fun i => X ((gR 3).emb i)) ∗ owns (c : Thread nD τ) g4 fullShare (fun i => X ((gR 4).emb i)) ∗ owns (c : Thread nD τ) g5 fullShare (fun i => X ((gR 5).emb i)) ∗ owns (c : Thread nD τ) g6 fullShare (fun i => X ((gR 6).emb i))) ∗ restOf c gM gR fullShare) := fun X => by
    have H := owns_cut (F := F) c gM gR gR_unit gR_disj fullShare X
    rw [bigSep_univ_eq_bigSepL [0, 1, 2, 3, 4, 5, 6] (by decide) (by decide), bigSepL_cons_cons, bigSepL_cons_cons, bigSepL_cons_cons, bigSepL_cons_cons, bigSepL_cons_cons, bigSepL_cons_cons, bigSepL_singleton] at H
    exact H
  iintro HM
  ihave HM := (anyOf_elim c gM) $$ HM
  icases HM with ⟨%X, HM⟩
  ihave HM := (H X) $$ HM
  icases HM with ⟨⟨H0, H1, H2, H3, H4, H5, H6⟩, Hr⟩
  isplitr [Hr]
  · isplitl [H0]; · iapply (anyOf_intro c g0 _) $$ H0
    isplitl [H1]; · iapply (anyOf_intro c g1 _) $$ H1
    isplitl [H2]; · iapply (anyOf_intro c g2 _) $$ H2
    isplitl [H3]; · iapply (anyOf_intro c g3 _) $$ H3
    isplitl [H4]; · iapply (anyOf_intro c g4 _) $$ H4
    isplitl [H5]; · iapply (anyOf_intro c g5 _) $$ H5
    iapply (anyOf_intro c g6 _) $$ H6
  iexact Hr

omit [FloatOps F] in
/-- The stage, put together again. -/
theorem stage_glue : iprop((anyOf c g0 ∗ anyOf c g1 ∗ anyOf c g2 ∗ anyOf c g3 ∗ anyOf c g4 ∗ anyOf c g5 ∗ anyOf c g6) ∗ restOf c gM gR fullShare) ⊢ (anyOf c gM : sProp 𝕄) := by
  have H := owns_glue (F := F) c gM gR gR_unit gR_disj fullShare
  rw [bigSep_univ_eq_bigSepL [0, 1, 2, 3, 4, 5, 6] (by decide) (by decide), bigSepL_cons_cons, bigSepL_cons_cons, bigSepL_cons_cons, bigSepL_cons_cons, bigSepL_cons_cons, bigSepL_cons_cons, bigSepL_singleton] at H
  exact H

omit [FloatOps F] in
/-- The result's buffer, cut. -/
theorem result_cut : (anyOf c oA : sProp 𝕄) ⊢ iprop(anyOf c (o1 c) ∗ anyOf c (o2 c) ∗ anyOf c (o3 c) ∗ anyOf c (o4 c) ∗ anyOf c (o5 c) ∗ anyOf c (o6 c) ∗ anyOf c (o7 c)) := by
  have H : ∀ X, (owns (c : Thread nD τ) oA fullShare X : sProp 𝕄)
      ⊢ iprop((owns (c : Thread nD τ) (o1 c) fullShare (fun i => X ((oR c 0).emb i)) ∗ owns (c : Thread nD τ) (o2 c) fullShare (fun i => X ((oR c 1).emb i)) ∗ owns (c : Thread nD τ) (o3 c) fullShare (fun i => X ((oR c 2).emb i)) ∗ owns (c : Thread nD τ) (o4 c) fullShare (fun i => X ((oR c 3).emb i)) ∗ owns (c : Thread nD τ) (o5 c) fullShare (fun i => X ((oR c 4).emb i)) ∗ owns (c : Thread nD τ) (o6 c) fullShare (fun i => X ((oR c 5).emb i)) ∗ owns (c : Thread nD τ) (o7 c) fullShare (fun i => X ((oR c 6).emb i))) ∗ restOf c oA (oR c) fullShare) := fun X => by
    have H := owns_cut (F := F) c oA (oR c) (oR_unit c) (oR_disj c) fullShare X
    rw [bigSep_univ_eq_bigSepL [0, 1, 2, 3, 4, 5, 6] (by decide) (by decide), bigSepL_cons_cons, bigSepL_cons_cons, bigSepL_cons_cons, bigSepL_cons_cons, bigSepL_cons_cons, bigSepL_cons_cons, bigSepL_singleton] at H
    exact H
  iintro HM
  ihave HM := (anyOf_elim c oA) $$ HM
  icases HM with ⟨%X, HM⟩
  ihave HM := (H X) $$ HM
  icases HM with ⟨⟨H0, H1, H2, H3, H4, H5, H6⟩, -⟩
  isplitl [H0]; · iapply (anyOf_intro c (o1 c) _) $$ H0
  isplitl [H1]; · iapply (anyOf_intro c (o2 c) _) $$ H1
  isplitl [H2]; · iapply (anyOf_intro c (o3 c) _) $$ H2
  isplitl [H3]; · iapply (anyOf_intro c (o4 c) _) $$ H3
  isplitl [H4]; · iapply (anyOf_intro c (o5 c) _) $$ H4
  isplitl [H5]; · iapply (anyOf_intro c (o6 c) _) $$ H5
  iapply (anyOf_intro c (o7 c) _) $$ H6

omit [FloatOps F] in
/-- The second hop's landing buffer, cut into its quarters. -/
theorem landing_cut : (anyOf c dM : sProp 𝕄) ⊢ iprop((anyOf c (qM dM 0) ∗ anyOf c (qM dM 1) ∗ anyOf c (qM dM 2) ∗ anyOf c (qM dM 3)) ∗ restOf c dM quarter fullShare) := by
  have H : ∀ X, (owns (c : Thread nD τ) dM fullShare X : sProp 𝕄)
      ⊢ iprop((owns (c : Thread nD τ) (qM dM 0) fullShare (rowsOf X 0) ∗ owns (c : Thread nD τ) (qM dM 1) fullShare (rowsOf X 1) ∗ owns (c : Thread nD τ) (qM dM 2) fullShare (rowsOf X 2) ∗ owns (c : Thread nD τ) (qM dM 3) fullShare (rowsOf X 3)) ∗ restOf c dM quarter fullShare) := fun X => by
    have H := owns_cut (F := F) c dM quarter (fun _ _ => rfl) quarter_disj fullShare X
    rw [bigSep_univ_eq_bigSepL [0, 1, 2, 3] (by decide) (by decide), bigSepL_cons_cons, bigSepL_cons_cons, bigSepL_cons_cons, bigSepL_singleton] at H
    exact H
  iintro HM
  ihave HM := (anyOf_elim c dM) $$ HM
  icases HM with ⟨%X, HM⟩
  ihave HM := (H X) $$ HM
  icases HM with ⟨⟨H0, H1, H2, H3⟩, Hr⟩
  isplitr [Hr]
  · isplitl [H0]; · iapply (anyOf_intro c (qM dM 0) _) $$ H0
    isplitl [H1]; · iapply (anyOf_intro c (qM dM 1) _) $$ H1
    isplitl [H2]; · iapply (anyOf_intro c (qM dM 2) _) $$ H2
    iapply (anyOf_intro c (qM dM 3) _) $$ H3
  iexact Hr

omit [FloatOps F] in
theorem landing_glue : iprop((anyOf c (qM dM 0) ∗ anyOf c (qM dM 1) ∗ anyOf c (qM dM 2) ∗ anyOf c (qM dM 3)) ∗ restOf c dM quarter fullShare) ⊢ (anyOf c dM : sProp 𝕄) := by
  have H := owns_glue (F := F) c dM quarter (fun _ _ => rfl) quarter_disj fullShare
  rw [bigSep_univ_eq_bigSepL [0, 1, 2, 3] (by decide) (by decide), bigSepL_cons_cons, bigSepL_cons_cons, bigSepL_cons_cons, bigSepL_singleton] at H
  exact H

omit [FloatOps F] in
/-- Two halves of a memref, whatever each is known to hold, are the memref. -/
theorem unite {sp : Space} {s : Shape} {e : EltTy} (M : Memref sig .tc sp s e) (X Y : s.Idx → Elt F e) :
    iprop(owns (c : Thread nD τ) M fullShare.left X ∗ owns (c : Thread nD τ) M fullShare.right Y) ⊢ (anyOf c M : sProp 𝕄) := by
  iintro ⟨Hl, Hr⟩
  ihave Hr := (ownsSat_intro (c : Thread nD τ) M fullShare.right (Φ := fun _ => True) (X := Y) trivial) $$ Hr
  ihave H := (owns_agree (c : Thread nD τ) M fullShare.left (Φ := fun _ => True) fullShare.right X) $$ [Hl Hr]
  · isplitl [Hl] <;> iassumption
  ihave H := (halve c M fullShare X).2 $$ H
  iapply (anyOf_intro c M X) $$ H

omit [FloatOps F] in
/-- A received block put together again: half of it untouched, the other half cut and its quarters back. -/
theorem block_glue (M : Memref sig .tc .vmem S1024x4096 .i8) {a b : Fin 4} (h : a ≠ b) (X : S1024x4096.Idx → Elt F .i8) (Xa Xb : S256x4096.Idx → Elt F .i8) :
    iprop(owns (c : Thread nD τ) M fullShare.left X ∗ owns (c : Thread nD τ) (qM M a) fullShare.right Xa ∗ owns (c : Thread nD τ) (qM M b) fullShare.right Xb
        ∗ restOf c M (pair a b) fullShare.right)
      ⊢ (anyOf c M : sProp 𝕄) := by
  iintro ⟨Hl, Ha, Hb, Hr⟩
  ihave Hr := (pair_glue c M h fullShare.right Xa Xb) $$ [Ha Hb Hr]
  · isplitl [Ha]; · iexact Ha
    isplitl [Hb]; · iexact Hb
    iexact Hr
  icases Hr with ⟨%Y, Hr⟩
  iapply (unite c M X Y)
  isplitl [Hl] <;> iassumption

omit [FloatOps F] in
/-- The device's own rows put together again: one half, and the two halves of the other that the two sends held. -/
theorem own_glue (X Y Z : S1024x4096.Idx → Elt F .i8) :
    iprop(owns (c : Thread nD τ) xM fullShare.left X ∗ owns (c : Thread nD τ) xM fullShare.right.left Y ∗ owns (c : Thread nD τ) xM fullShare.right.right Y)
      ⊢ (anyOf c xM : sProp 𝕄) := by
  iintro ⟨Hl, Ha, Hb⟩
  iapply (unite c xM X Y)
  isplitl [Hl]; · iexact Hl
  iapply (halve c xM fullShare.right Y).2
  isplitl [Ha] <;> iassumption

omit [FloatOps F] in
theorem slot_back (g : Memref sig .tc .vmem S1x1024x512 .f32) (X : S1024x512.Idx → Elt F .f32) :
    (owns (c : Thread nD τ) (sqB g) fullShare X : sProp 𝕄) ⊢ anyOf c g := by
  unfold anyOf
  exact owns_unsqueeze c g squeezes_S1x1024x512_S1024x512 fullShare X

omit [FloatOps F] in
theorem quarter_back (g : Memref sig .tc .vmem S1x256x512 .f32) (X : S256x512.Idx → Elt F .f32) :
    (owns (c : Thread nD τ) (sqQ g) fullShare X : sProp 𝕄) ⊢ anyOf c g := by
  unfold anyOf
  exact owns_unsqueeze c g squeezes_S1x256x512_S256x512 fullShare X

/-! ## What a device starts with and ends with -/

/-- The fourteen duties a device performs. -/
abbrev toks (c : Dev nD) : sProp 𝕄 :=
  iprop((tok c (.bar, true) ∗ tok c (.bar, false))
    ∗ (tok c (.snd 0, false) ∗ tok c (.rcv 0, false) ∗ tok c (.snd 1, false) ∗ tok c (.rcv 1, false))
    ∗ (tok c (.fsd 0, false) ∗ tok c (.frc 0, false) ∗ tok c (.fsd 1, false) ∗ tok c (.frc 1, false))
    ∗ (tok c (.fsd 2, false) ∗ tok c (.frc 2, false) ∗ tok c (.fsd 3, false) ∗ tok c (.frc 3, false)))

/-- Its place at each of its thirteen cells. -/
abbrev poss (c : Dev nD) : sProp 𝕄 := iprop(pos c .bar ∗ pos c (.snd 0) ∗ pos c (.snd 1) ∗ pos c (.rcv 0) ∗ pos c (.rcv 1) ∗ pos c (.fsd 0) ∗ pos c (.fsd 1) ∗ pos c (.fsd 2) ∗ pos c (.fsd 3) ∗ pos c (.frc 0) ∗ pos c (.frc 1) ∗ pos c (.frc 2) ∗ pos c (.frc 3))

/-- The credits of the waits whose senders are other devices. -/
abbrev crds (c : Dev nD) : sProp 𝕄 := iprop(crd c .bar ∗ crd c (.rcv 0) ∗ crd c (.rcv 1) ∗ crd c (.frc 0) ∗ crd c (.frc 1) ∗ crd c (.frc 2) ∗ crd c (.frc 3))

/-- The semaphores of its own copies. -/
abbrev zeros (c : Dev nD) : sProp 𝕄 := iprop(zero c (.dma (inS 0)) ∗ zero c (.dma (inS 1)) ∗ zero c (.dma (outS 0)) ∗ zero c (.dma (outS 1)) ∗ zero c (.dma (outS 2)) ∗ zero c (.dma (outS 3)) ∗ zero c (.dma (outS 4)) ∗ zero c (.dma (outS 5)) ∗ zero c (.dma (outS 6)))

/-- The semaphores of its cells. -/
abbrev cellZeros (c : Dev nD) : sProp 𝕄 := iprop(zero c (xsem .bar) ∗ zero c (xsem (.snd 0)) ∗ zero c (xsem (.snd 1)) ∗ zero c (xsem (.rcv 0)) ∗ zero c (xsem (.rcv 1)) ∗ zero c (xsem (.fsd 0)) ∗ zero c (xsem (.fsd 1)) ∗ zero c (xsem (.fsd 2)) ∗ zero c (xsem (.fsd 3)) ∗ zero c (xsem (.frc 0)) ∗ zero c (xsem (.frc 1)) ∗ zero c (xsem (.frc 2)) ∗ zero c (xsem (.frc 3)))

/-- Its arguments, at their launch contents. -/
abbrev args (m : (ℓ : Loc nD τ sig) → Buf (Elt F) ℓ) (c : Dev nD) : sProp 𝕄 :=
  iprop(owns (c : Thread nD τ) xA fullShare (xin m c) ∗ owns (c : Thread nD τ) wA fullShare (win m c)
    ∗ owns (c : Thread nD τ) sA fullShare (sIn m c) ∗ owns (c : Thread nD τ) tA fullShare (tIn m c))

/-- Its six scratch buffers, at any contents. -/
abbrev scratch (c : Dev nD) : sProp 𝕄 :=
  iprop(anyOf c xM ∗ anyOf c wM ∗ anyOf c lM ∗ anyOf c rM ∗ anyOf c dM ∗ anyOf c gM)

/-- What it writes to each of the seven pieces of its result: the blocks of its own rows, of its two neighbours', and the four quarters of
the block of the device opposite. -/
abbrev v1 (m : (ℓ : Loc nD τ sig) → Buf (Elt F) ℓ) (c : Dev nD) : S1024x512.Idx → Elt F .f32 :=
  flatB (k0_pay3 (k0_pay2 (sIn m c only) (tIn m c only) (xin m c) (win m c)))
abbrev v2 (m : (ℓ : Loc nD τ sig) → Buf (Elt F) ℓ) (c : Dev nD) : S1024x512.Idx → Elt F .f32 :=
  flatB (k0_pay5 (k0_pay4 (scl m c) (xin m (left c)) (win m c)))
abbrev v3 (m : (ℓ : Loc nD τ sig) → Buf (Elt F) ℓ) (c : Dev nD) : S1024x512.Idx → Elt F .f32 :=
  flatB (k0_pay6 (scl m c) (xin m (right c)) (win m c))
abbrev v4 (m : (ℓ : Loc nD τ sig) → Buf (Elt F) ℓ) (c : Dev nD) : S256x512.Idx → Elt F .f32 :=
  flatQ (k0_pay7 (scl m c) (rowsOf (xin m (opp c)) 0) (win m c))
abbrev v5 (m : (ℓ : Loc nD τ sig) → Buf (Elt F) ℓ) (c : Dev nD) : S256x512.Idx → Elt F .f32 :=
  flatQ (k0_pay9 (scl m c) (rowsOf (xin m (opp c)) 1) (win m c))
abbrev v6 (m : (ℓ : Loc nD τ sig) → Buf (Elt F) ℓ) (c : Dev nD) : S256x512.Idx → Elt F .f32 :=
  flatQ (k0_pay8 (scl m c) (rowsOf (xin m (opp c)) 2) (win m c))
abbrev v7 (m : (ℓ : Loc nD τ sig) → Buf (Elt F) ℓ) (c : Dev nD) : S256x512.Idx → Elt F .f32 :=
  flatQ (k0_pay10 (scl m c) (rowsOf (xin m (opp c)) 3) (win m c))

/-- The result's seven pieces, written. -/
abbrev results (m : (ℓ : Loc nD τ sig) → Buf (Elt F) ℓ) (c : Dev nD) : sProp 𝕄 :=
  iprop(owns (c : Thread nD τ) (o1 c) fullShare (v1 m c) ∗ owns (c : Thread nD τ) (o2 c) fullShare (v2 m c) ∗ owns (c : Thread nD τ) (o3 c) fullShare (v3 m c) ∗ owns (c : Thread nD τ) (o4 c) fullShare (v4 m c) ∗ owns (c : Thread nD τ) (o5 c) fullShare (v5 m c) ∗ owns (c : Thread nD τ) (o6 c) fullShare (v6 m c) ∗ owns (c : Thread nD τ) (o7 c) fullShare (v7 m c))

variable (h0 : xA.IsWhole) (h1 : wA.IsWhole) (h2 : sA.IsWhole) (h3 : tA.IsWhole) (h4 : oA.IsWhole) (h5 : xM.IsWhole) (h6 : wM.IsWhole)
  (h7 : lM.IsWhole) (h8 : rM.IsWhole) (h9 : dM.IsWhole) (h10 : gM.IsWhole)

omit [FloatOps F] in
/-- What the barrier's first duty hands over: the block the right-hand rows land in and the first two quarters of the second landing. -/
theorem pay_true : iprop(anyOf c lM ∗ anyOf c (qM dM 0) ∗ anyOf c (qM dM 1)) ⊢ pay m (left c) .bar true := by
  have h : pay m (left c) .bar true
      = iprop(anyOf (right (left c)) lM ∗ anyOf (right (left c)) (qM dM 0) ∗ anyOf (right (left c)) (qM dM 1)) := rfl
  rw [h, right_left]

omit [FloatOps F] in
/-- What its second hands over: the mirror image. -/
theorem pay_false : iprop(anyOf c rM ∗ anyOf c (qM dM 2) ∗ anyOf c (qM dM 3)) ⊢ pay m (right c) .bar false := by
  have h : pay m (right c) .bar false
      = iprop(anyOf (left (right c)) rM ∗ anyOf (left (right c)) (qM dM 2) ∗ anyOf (left (right c)) (qM dM 3)) := rfl
  rw [h, left_right]

/-- The whole program of a device: from its cells' duties, its arguments, its result's buffer and its scratch, to the same with the result
written, every semaphore at zero and nothing owed. -/
theorem program_spec {Q : _ → sProp 𝕄} :
    iprop(recs m ∗ owing c debts ∗ toks c ∗ poss c ∗ crds c ∗ zeros c ∗ args m c ∗ anyOf c oA ∗ scratch c)
      ⊢ iprop(((owing c [] ∗ cellZeros c ∗ zeros c ∗ args m c ∗ results m c ∗ scratch c) -∗ Q ⟨⟩)
        -∗ wp frame (wpE (defs₀ (F := F)) 𝒱₀ (c : Thread nD τ) none) Set.univ (k0_part11 xA h0 wA h1 sA h2 tA h3 oA h4 xM h5 wM h6 lM h7 rM h8 dM h9 gM h10 cc0_scratch6 cc0_scratch7 cc0_scratch8 cc0_scratch9 cc0_scratch10 cc0_scratch11) Q) := by
  rw [k0_part11_eq_skeleton]
  unfold k0_part11_skel
  simp only [Prog.lift, Prog.bind_op, Prog.bind_ret, Prog.pure_eq_ret, wp_bind]
  iintro ⟨#HR, HO, ⟨⟨Tbt, Tbf⟩, T2, T3, T4⟩, ⟨Pb, Ps0, Ps1, Pr0, Pr1, Pf0, Pf1, Pf2, Pf3, Pc0, Pc1, Pc2, Pc3⟩, ⟨Cb, Cr0, Cr1, Cc0, Cc1, Cc2, Cc3⟩, ⟨Zi0, Zi1, Zo0, Zo1, Zo2, Zo3, Zo4, Zo5, Zo6⟩, ⟨HxA, HwA, HsA, HtA⟩, HoA, ⟨HxM, HwM, HlM, HrM, HdM, HgM⟩⟩ HQ
  ihave HoA := (result_cut c) $$ HoA
  icases HoA with ⟨Ho1, Ho2, Ho3, Ho4, Ho5, Ho6, Ho7⟩
  ihave HgM := (stage_cut c) $$ HgM
  icases HgM with ⟨⟨Hg0, Hg1, Hg2, Hg3, Hg4, Hg5, Hg6⟩, HgR⟩
  ihave HdM := (landing_cut c) $$ HdM
  icases HdM with ⟨⟨Hd0, Hd1, Hd2, Hd3⟩, HdR⟩
  iapply (part1_spec m c h0 h1 h2 h3 h4 h5 h6 h7 h8 h9 h10) $$ [HO Tbt HlM Hd0 Hd1 HxA HxM Zi0 HwA HwM Zi1]
  · isplitr; · iexact HR
    isplitl [HO]; · iexact HO
    isplitl [Tbt]; · iexact Tbt
    isplitl [HlM Hd0 Hd1]
    · iapply (pay_true m c)
      isplitl [HlM]; · iexact HlM
      isplitl [Hd0]; · iexact Hd0
      iexact Hd1
    isplitl [HxA HxM Zi0]
    · isplitl [HxA]; · iexact HxA
      isplitl [HxM]; · iexact HxM
      iexact Zi0
    isplitl [HwA]; · iexact HwA
    isplitl [HwM]; · iexact HwM
    iexact Zi1
  iintro %w2 %w14 %w25 ⟨HO, Hx, Hw⟩
  iapply (part2_spec m c h0 h1 h2 h3 h4 h5 h6 h7 h8 h9 h10 w2 w14 w25) $$ [HO Tbf HrM Hd2 Hd3 Pb Cb Hx Hw T2 HsA HtA]
  · isplitr; · iexact HR
    isplitl [HO]; · iexact HO
    isplitl [Tbf]; · iexact Tbf
    isplitl [HrM Hd2 Hd3]
    · iapply (pay_false m c)
      isplitl [HrM]; · iexact HrM
      isplitl [Hd2]; · iexact Hd2
      iexact Hd3
    isplitl [Pb]; · iexact Pb
    isplitl [Cb]; · iexact Cb
    isplitl [Hx]; · iexact Hx
    isplitl [Hw]; · iexact Hw
    isplitl [T2]; · iexact T2
    isplitl [HsA]; · iexact HsA
    iexact HtA
  iintro ⟨HO, ⟨Cs0, Cs1⟩, HdR01, HdL23, ⟨HxM, HwM⟩, ⟨HxA, HwA⟩, ⟨HsA, HtA⟩, Zb, Zi0, Zi1⟩
  iapply (part3_spec m c h0 h1 h2 h3 h4 h5 h6 h7 h8 h9 h10 w25 (k0_pay2 (sIn m c only) (tIn m c only) (xin m c) (win m c))) $$ [HO Hg0 Ho1 Zo0 Pr0 Cr0 HdR01 T3]
  · isplitr; · iexact HR
    isplitl [HO]; · iexact HO
    isplitl [Hg0 Ho1 Zo0]
    · isplitl [Hg0]; · iexact Hg0
      isplitl [Ho1]; · iexact Ho1
      iexact Zo0
    isplitl [Pr0]; · iexact Pr0
    isplitl [Cr0]; · iexact Cr0
    isplitl [HdR01]; · iexact HdR01
    iexact T3
  iintro ⟨HO, Hf0, Zr0, ⟨Cf0, Cf1⟩, HlM, HlR⟩
  iapply (part4_spec m c h0 h1 h2 h3 h4 h5 h6 h7 h8 h9 h10 w14 (scl m c)) $$ [HO Pr1 Cr1 HdL23 T4 HlM HwM]
  · isplitr; · iexact HR
    isplitl [HO]; · iexact HO
    isplitl [Pr1]; · iexact Pr1
    isplitl [Cr1]; · iexact Cr1
    isplitl [HdL23]; · iexact HdL23
    isplitl [T4]; · iexact T4
    isplitl [HlM]; · iexact HlM
    iexact HwM
  iintro ⟨HO, Zr1, ⟨Cf2, Cf3⟩, ⟨HrM, HrR⟩, HlM, HwM⟩
  iapply (part5_spec m c h0 h1 h2 h3 h4 h5 h6 h7 h8 h9 h10 w2 w25 (scl m c) (k0_pay4 (scl m c) (xin m (left c)) (win m c))) $$ [Hg1 Ho2 Zo1 Hg2 Ho3 Zo2 HrM HwM]
  · isplitl [Hg1 Ho2 Zo1]
    · isplitl [Hg1]; · iexact Hg1
      isplitl [Ho2]; · iexact Ho2
      iexact Zo1
    isplitl [Hg2 Ho3 Zo2]
    · isplitl [Hg2]; · iexact Hg2
      isplitl [Ho3]; · iexact Ho3
      iexact Zo2
    isplitl [HrM]; · iexact HrM
    iexact HwM
  iintro %w147 %w148 ⟨Hf1, Hf2, HrM, HwM⟩
  iapply (part6_spec m c h0 h1 h2 h3 h4 h5 h6 h7 h8 h9 h10 w25 (scl m c) w147 w148 0#32) $$ [HO Pc0 Cc0 Hg3 Ho4 Zo3 HwM]
  · isplitr; · iexact HR
    isplitl [HO]; · iexact HO
    isplitl [Pc0 Cc0]
    · isplitl [Pc0]; · iexact Pc0
      iexact Cc0
    isplitl [Hg3 Ho4 Zo3]
    · isplitl [Hg3]; · iexact Hg3
      isplitl [Ho4]; · iexact Ho4
      iexact Zo3
    iexact HwM
  iintro %w155 ⟨HO, ⟨Zc0, Hd0⟩, Hf3, HwM⟩
  iapply (part7_spec m c h0 h1 h2 h3 h4 h5 h6 h7 h8 h9 h10 w14 w25 (scl m c) w155) $$ [HO Pc2 Cc2 Hg5 Ho6 Zo5 HwM]
  · isplitr; · iexact HR
    isplitl [HO]; · iexact HO
    isplitl [Pc2 Cc2]
    · isplitl [Pc2]; · iexact Pc2
      iexact Cc2
    isplitl [Hg5 Ho6 Zo5]
    · isplitl [Hg5]; · iexact Hg5
      isplitl [Ho6]; · iexact Ho6
      iexact Zo5
    iexact HwM
  iintro ⟨HO, ⟨Zc2, Hd2⟩, Hf5, HwM⟩
  iapply (part8_spec m c h0 h1 h2 h3 h4 h5 h6 h7 h8 h9 h10 w14 (scl m c) w155) $$ [HO Pc1 Cc1 Hg4 Ho5 Zo4 HwM Pc3 Cc3]
  · isplitr; · iexact HR
    isplitl [HO]; · iexact HO
    isplitl [Pc1 Cc1]
    · isplitl [Pc1]; · iexact Pc1
      iexact Cc1
    isplitl [Hg4 Ho5 Zo4]
    · isplitl [Hg4]; · iexact Hg4
      isplitl [Ho5]; · iexact Ho5
      iexact Zo4
    isplitl [HwM]; · iexact HwM
    isplitl [Pc3]; · iexact Pc3
    iexact Cc3
  iintro %w234 ⟨HO, ⟨Zc1, Hd1⟩, Hf4, HwM, Zc3, Hd3⟩
  iapply (part9_spec m c h0 h1 h2 h3 h4 h5 h6 h7 h8 h9 h10 (scl m c) w234 768#32) $$ [HO Hd3 Hg6 Ho7 Zo6 HwM Ps0 Cs0 Ps1 Cs1 Pf0 Cf0]
  · isplitr; · iexact HR
    isplitl [HO]; · iexact HO
    isplitl [Hd3]; · iexact Hd3
    isplitl [Hg6 Ho7 Zo6]
    · isplitl [Hg6]; · iexact Hg6
      isplitl [Ho7]; · iexact Ho7
      iexact Zo6
    isplitl [HwM]; · iexact HwM
    isplitl [Ps0 Cs0]
    · isplitl [Ps0]; · iexact Ps0
      iexact Cs0
    isplitl [Ps1 Cs1]
    · isplitl [Ps1]; · iexact Ps1
      iexact Cs1
    isplitl [Pf0]; · iexact Pf0
    iexact Cf0
  iintro ⟨HO, Hd3, Hf6, HwM, ⟨Zs0, HxA'⟩, ⟨Zs1, HxB'⟩, Zf0, Hl0⟩
  iapply (part10_spec m c h0 h1 h2 h3 h4 h5 h6 h7 h8 h9 h10 (v1 m c) (v2 m c)) $$ [HO Pf1 Cf1 Pf2 Cf2 Pf3 Cf3 Hf0 Hf1]
  · isplitr; · iexact HR
    isplitl [HO]; · iexact HO
    isplitl [Pf1 Cf1]
    · isplitl [Pf1]; · iexact Pf1
      iexact Cf1
    isplitl [Pf2 Cf2]
    · isplitl [Pf2]; · iexact Pf2
      iexact Cf2
    isplitl [Pf3 Cf3]
    · isplitl [Pf3]; · iexact Pf3
      iexact Cf3
    isplitl [Hf0]; · iexact Hf0
    iexact Hf1
  iintro ⟨HO, ⟨Zf1, Hl1⟩, ⟨Zf2, Hr2⟩, ⟨Zf3, Hr3⟩, ⟨Ho1, Hg0, Zo0⟩, Ho2, Hg1, Zo1⟩
  iapply (step_copied m c (o3 c) (outS 2) rfl rfl [] (outS_ne 2) (by decide)) $$ [Hf2 HO]
  · isplitr; · iexact HR
    isplitl [Hf2]; · iexact Hf2
    iexact HO
  iintro ⟨⟨Ho3, Hg2⟩, Zo2, HO⟩
  iapply (step_copied m c (o4 c) (outS 3) rfl rfl [] (outS_ne 3) (by decide)) $$ [Hf3 HO]
  · isplitr; · iexact HR
    isplitl [Hf3]; · iexact Hf3
    iexact HO
  iintro ⟨⟨Ho4, Hg3⟩, Zo3, HO⟩
  iapply (step_copied m c (o6 c) (outS 5) rfl rfl [] (outS_ne 5) (by decide)) $$ [Hf5 HO]
  · isplitr; · iexact HR
    isplitl [Hf5]; · iexact Hf5
    iexact HO
  iintro ⟨⟨Ho6, Hg5⟩, Zo5, HO⟩
  iapply (step_copied m c (o5 c) (outS 4) rfl rfl [] (outS_ne 4) (by decide)) $$ [Hf4 HO]
  · isplitr; · iexact HR
    isplitl [Hf4]; · iexact Hf4
    iexact HO
  iintro ⟨⟨Ho5, Hg4⟩, Zo4, HO⟩
  iapply (step_copied m c (o7 c) (outS 6) rfl rfl [] (outS_ne 6) (by decide)) $$ [Hf6 HO]
  · isplitr; · iexact HR
    isplitl [Hf6]; · iexact Hf6
    iexact HO
  iintro ⟨⟨Ho7, Hg6⟩, Zo6, HO⟩
  rw [wp_ret]
  imodintro
  iapply HQ
  isplitl [HO]; · iexact HO
  isplitl [Zb Zs0 Zs1 Zr0 Zr1 Zf0 Zf1 Zf2 Zf3 Zc0 Zc1 Zc2 Zc3]
  · isplitl [Zb]; · iexact Zb
    isplitl [Zs0]; · iexact Zs0
    isplitl [Zs1]; · iexact Zs1
    isplitl [Zr0]; · iexact Zr0
    isplitl [Zr1]; · iexact Zr1
    isplitl [Zf0]; · iexact Zf0
    isplitl [Zf1]; · iexact Zf1
    isplitl [Zf2]; · iexact Zf2
    isplitl [Zf3]; · iexact Zf3
    isplitl [Zc0]; · iexact Zc0
    isplitl [Zc1]; · iexact Zc1
    isplitl [Zc2]; · iexact Zc2
    iexact Zc3
  isplitl [Zi0 Zi1 Zo0 Zo1 Zo2 Zo3 Zo4 Zo5 Zo6]
  · isplitl [Zi0]; · iexact Zi0
    isplitl [Zi1]; · iexact Zi1
    isplitl [Zo0]; · iexact Zo0
    isplitl [Zo1]; · iexact Zo1
    isplitl [Zo2]; · iexact Zo2
    isplitl [Zo3]; · iexact Zo3
    isplitl [Zo4]; · iexact Zo4
    isplitl [Zo5]; · iexact Zo5
    iexact Zo6
  isplitl [HxA HwA HsA HtA]
  · isplitl [HxA]; · iexact HxA
    isplitl [HwA]; · iexact HwA
    isplitl [HsA]; · iexact HsA
    iexact HtA
  isplitl [Ho1 Ho2 Ho3 Ho4 Ho5 Ho6 Ho7]
  · isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [HxM HxA' HxB']
  · iapply (own_glue c (xin m c) (xin m c) (xin m c))
    isplitl [HxM]; · iexact HxM
    isplitl [HxA']; · iexact HxA'
    iexact HxB'
  isplitl [HwM]
  · iapply (anyOf_intro c wM (win m c)) $$ HwM
  isplitl [HlM Hl0 Hl1 HlR]
  · iapply (block_glue c lM (a := 0) (b := 1) (by decide) (xin m (left c)) (rowsOf (xin m (left c)) 0) (rowsOf (xin m (left c)) 1))
    isplitl [HlM]; · iexact HlM
    isplitl [Hl0]; · iexact Hl0
    isplitl [Hl1]; · iexact Hl1
    iexact HlR
  isplitl [HrM Hr2 Hr3 HrR]
  · iapply (block_glue c rM (a := 2) (b := 3) (by decide) (xin m (right c)) (rowsOf (xin m (right c)) 2) (rowsOf (xin m (right c)) 3))
    isplitl [HrM]; · iexact HrM
    isplitl [Hr2]; · iexact Hr2
    isplitl [Hr3]; · iexact Hr3
    iexact HrR
  isplitl [Hd0 Hd1 Hd2 Hd3 HdR]
  · iapply (landing_glue c)
    isplitr [HdR]
    · isplitl [Hd0]; · iapply (anyOf_intro c (qM dM 0) _) $$ Hd0
      isplitl [Hd1]; · iapply (anyOf_intro c (qM dM 1) _) $$ Hd1
      isplitl [Hd2]; · iapply (anyOf_intro c (qM dM 2) _) $$ Hd2
      iapply (anyOf_intro c (qM dM 3) _) $$ Hd3
    iexact HdR
  iapply (stage_glue c)
  isplitr [HgR]
  · isplitl [Hg0]; · iapply (slot_back c g0 _) $$ Hg0
    isplitl [Hg1]; · iapply (slot_back c g1 _) $$ Hg1
    isplitl [Hg2]; · iapply (slot_back c g2 _) $$ Hg2
    isplitl [Hg3]; · iapply (quarter_back c g3 _) $$ Hg3
    isplitl [Hg4]; · iapply (quarter_back c g4 _) $$ Hg4
    isplitl [Hg5]; · iapply (quarter_back c g5 _) $$ Hg5
    iapply (quarter_back c g6 _) $$ Hg6
  iexact HgR

end Cert.KernelIdeal.Exchange

end
-- ==== Proof.Start.lean ====
/-
The launch's set-up: the semaphores, the cells, the duties and the credits each device starts with.
-/
module

public import proofs.«01_k».proof.Proof.Body

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores of a device -/

set_option backward.proofsInPublic true in
/-- The kernel's own semaphores: the copies in, the four kinds of remote copies, the copies out. -/
def osem (i : Fin 21) : SemLoc sig := .dma ⟨2 + i.val, by have := i.isLt; show _ < 23; omega⟩

theorem ownSemFacts : Pipeline.OwnSemFacts cfg0.spec osem := by decide

omit [FloatOps F] in
theorem ownSems0_eq (c : Dev nD) : (Pipeline.ownSems0 (Ix := Unit) (Name := ℕ) (U := UU) (Lvl := ℕ) (Val := Elt F) (τ := τ) osem c : sProp 𝕄)
    = iprop(zero c (.dma (inS 0)) ∗ zero c (.dma (inS 1)) ∗ zero c (xsem (.snd 0)) ∗ zero c (xsem (.snd 1)) ∗ zero c (xsem (.rcv 0)) ∗ zero c (xsem (.rcv 1)) ∗ zero c (xsem (.fsd 0)) ∗ zero c (xsem (.fsd 1)) ∗ zero c (xsem (.fsd 2)) ∗ zero c (xsem (.fsd 3)) ∗ zero c (xsem (.frc 0)) ∗ zero c (xsem (.frc 1)) ∗ zero c (xsem (.frc 2)) ∗ zero c (xsem (.frc 3)) ∗ zero c (.dma (outS 0)) ∗ zero c (.dma (outS 1)) ∗ zero c (.dma (outS 2)) ∗ zero c (.dma (outS 3)) ∗ zero c (.dma (outS 4)) ∗ zero c (.dma (outS 5)) ∗ zero c (.dma (outS 6))) := by
  rw [Pipeline.ownSems0_eq_of_list c osem [0, 1, 2, 3, 4, 5, 6, 7, 8, 9, 10, 11, 12, 13, 14, 15, 16, 17, 18, 19, 20] (by decide) (by decide)]; rfl

omit [FloatOps F] in
theorem unscopedSems0_eq (c : Dev nD) : (unscopedSems0 c : sProp 𝕄) = zero c (xsem .bar) := by
  unfold unscopedSems0; rw [bigSep_eq_bigSepL_of_eq [xsem .bar] (by decide) (by decide)]; rfl

omit [FloatOps F] in
/-- A conjunction over the kinds, written out. -/
theorem bigSep_kinds (Φ : Kd → sProp 𝕄) : bigSep Finset.univ Φ = iprop(Φ .bar ∗ Φ (.snd 0) ∗ Φ (.snd 1) ∗ Φ (.rcv 0) ∗ Φ (.rcv 1) ∗ Φ (.fsd 0) ∗ Φ (.fsd 1) ∗ Φ (.fsd 2) ∗ Φ (.fsd 3) ∗ Φ (.frc 0) ∗ Φ (.frc 1) ∗ Φ (.frc 2) ∗ Φ (.frc 3)) :=
  bigSep_univ_eq_bigSepL kinds (by decide) (by decide) Φ

omit [FloatOps F] in
/-- The semaphores at launch: those of the exchange's cells, and those of the device's own copies. -/
theorem sems_split (c : Dev nD) :
    iprop(Pipeline.ownSems0 (Ix := Unit) (Name := ℕ) (U := UU) (Lvl := ℕ) (Val := Elt F) (τ := τ) osem c ∗ unscopedSems0 c) ⊢ (iprop((bigSep Finset.univ fun k : Kd => zero c (xsem k)) ∗ zeros c) : sProp 𝕄) := by
  rw [ownSems0_eq, unscopedSems0_eq, bigSep_kinds]
  iintro ⟨⟨Zi0, Zi1, Zs0, Zs1, Zr0, Zr1, Zf0, Zf1, Zf2, Zf3, Zc0, Zc1, Zc2, Zc3, Zo0, Zo1, Zo2, Zo3, Zo4, Zo5, Zo6⟩, Zb⟩
  isplitl [Zb Zs0 Zs1 Zr0 Zr1 Zf0 Zf1 Zf2 Zf3 Zc0 Zc1 Zc2 Zc3]
  · isplitl [Zb]; · iexact Zb
    isplitl [Zs0]; · iexact Zs0
    isplitl [Zs1]; · iexact Zs1
    isplitl [Zr0]; · iexact Zr0
    isplitl [Zr1]; · iexact Zr1
    isplitl [Zf0]; · iexact Zf0
    isplitl [Zf1]; · iexact Zf1
    isplitl [Zf2]; · iexact Zf2
    isplitl [Zf3]; · iexact Zf3
    isplitl [Zc0]; · iexact Zc0
    isplitl [Zc1]; · iexact Zc1
    isplitl [Zc2]; · iexact Zc2
    iexact Zc3
  isplitl [Zi0]; · iexact Zi0
  isplitl [Zi1]; · iexact Zi1
  isplitl [Zo0]; · iexact Zo0
  isplitl [Zo1]; · iexact Zo1
  isplitl [Zo2]; · iexact Zo2
  isplitl [Zo3]; · iexact Zo3
  isplitl [Zo4]; · iexact Zo4
  isplitl [Zo5]; · iexact Zo5
  iexact Zo6

omit [FloatOps F] in
/-- And back, at the end. -/
theorem sems_join (c : Dev nD) :
    (iprop(cellZeros c ∗ zeros c) : sProp 𝕄) ⊢ iprop(unscopedSems0 c ∗ Pipeline.ownSems0 (Ix := Unit) (Name := ℕ) (U := UU) (Lvl := ℕ) (Val := Elt F) (τ := τ) osem c) := by
  rw [ownSems0_eq, unscopedSems0_eq]
  iintro ⟨⟨Zb, Zs0, Zs1, Zr0, Zr1, Zf0, Zf1, Zf2, Zf3, Zc0, Zc1, Zc2, Zc3⟩, Zi0, Zi1, Zo0, Zo1, Zo2, Zo3, Zo4, Zo5, Zo6⟩
  isplitl [Zb]; · iexact Zb
  isplitl [Zi0]; · iexact Zi0
  isplitl [Zi1]; · iexact Zi1
  isplitl [Zs0]; · iexact Zs0
  isplitl [Zs1]; · iexact Zs1
  isplitl [Zr0]; · iexact Zr0
  isplitl [Zr1]; · iexact Zr1
  isplitl [Zf0]; · iexact Zf0
  isplitl [Zf1]; · iexact Zf1
  isplitl [Zf2]; · iexact Zf2
  isplitl [Zf3]; · iexact Zf3
  isplitl [Zc0]; · iexact Zc0
  isplitl [Zc1]; · iexact Zc1
  isplitl [Zc2]; · iexact Zc2
  isplitl [Zc3]; · iexact Zc3
  isplitl [Zo0]; · iexact Zo0
  isplitl [Zo1]; · iexact Zo1
  isplitl [Zo2]; · iexact Zo2
  isplitl [Zo3]; · iexact Zo3
  isplitl [Zo4]; · iexact Zo4
  isplitl [Zo5]; · iexact Zo5
  iexact Zo6

/-! ## The cells and the duties dealt at launch -/

theorem cellAt_injective : Function.Injective fun x : Dev nD × Kd => cell x.1 x.2 := fun x y h =>
  Prod.ext (cell_inj h).1 (cell_inj h).2
def xCells : Finset (GSem nD τ sig) := Finset.univ.map ⟨fun x : Dev nD × Kd => cell x.1 x.2, cellAt_injective⟩

abbrev dutyAt (y : Dev nD × (Kd × Bool)) : GSem nD τ sig × ℕ × Bool := (cell y.1 y.2.1, 0, y.2.2)
theorem dutyAt_injective : Function.Injective dutyAt := fun y z h => by
  have h1 := cell_inj (congrArg Prod.fst h)
  exact Prod.ext h1.1 (Prod.ext h1.2 (congrArg (fun p : GSem nD τ sig × ℕ × Bool => p.2.2) h))
def xToks : Finset (GSem nD τ sig × ℕ × Bool) := Finset.univ.map ⟨dutyAt, dutyAt_injective⟩

/-- The ghost element of the launch: the staging's, the exchange's, and no copy in flight. -/
def u₀ : UU := (initOf (Pipeline.cells cfgs cellOf_inj) (Pipeline.launchToks cfgs cellOf_inj), (initOf xCells xToks, 1))

/-- What it deals to a device: its cells' states and positions, and the duties done to it. -/
def G (c : Dev nD) : sProp 𝕄 :=
  iprop((bigSep Finset.univ fun k : Kd => roundState EX (Rd m) (cell c k) 0)
    ∗ (bigSep Finset.univ fun k : Kd => pos c k) ∗ (bigSep Finset.univ fun k : Kd => reached EX (cell c k) 0)
    ∗ bigSep Finset.univ fun x : Kd × Bool => dutyTok EX (cell c x.1) 0 x.2)

theorem deal : BI.own (EX (initOf xCells xToks)) ⊢ (|==> bigSep Finset.univ (G m) : sProp 𝕄) := by
  have hX (Φ : GSem nD τ sig → sProp 𝕄) : bigSep xCells Φ = bigSep Finset.univ fun c : Dev nD => bigSep Finset.univ fun k : Kd => Φ (cell c k) := by
    unfold xCells; rw [bigSep_map, bigSep_univ_prod]; rfl
  have hT : bigSep xToks (fun y => (dutyTok EX y.1 y.2.1 y.2.2 : sProp 𝕄))
      = bigSep Finset.univ fun c : Dev nD => bigSep Finset.univ fun x : Kd × Bool => dutyTok EX (cell c x.1) 0 x.2 := by
    unfold xToks; rw [bigSep_map, bigSep_univ_prod]; rfl
  iintro HX
  imod (Rounds.fund EX (Rd m) xCells xToks) $$ HX with ⟨Hst, Hr, Hat, Htok⟩
  imodintro
  ihave Hst' := (Entails.of_eq (hX fun g => roundState EX (Rd m) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- The records alone, before the levels are fixed. -/
def recs₀ : sProp 𝕄 :=
  iprop(∃ Kn : Dev nD × Kd → ℕ, (bigSep Finset.univ fun x : Dev nD × Kd => cellInv EX (Rd m) (Kn x) (cell x.1 x.2))
    ∗ bigSep Finset.univ fun x : Dev nD × Kd => reached EX (cell x.1 x.2) 0)

instance recs₀_persistent : BI.Persistent (recs₀ m : sProp 𝕄) := by unfold recs₀; infer_instance

/-- What a device gets once the cells are set up: the records, its positions, the duties it does, its own copies' semaphores. -/
def G' (c : Dev nD) : sProp 𝕄 := iprop(recs₀ m ∗ poss c ∗ toks c ∗ zeros c)

theorem cells_alloc (c : Dev nD) :
    iprop(Pipeline.ownSems0 (Ix := Unit) (Name := ℕ) (U := UU) (Lvl := ℕ) (Val := Elt F) (τ := τ) osem c ∗ unscopedSems0 c ∗ G m c)
      ⊢ |={Set.univ}=> (iprop((bigSep Finset.univ fun k : Kd => iprop(∃ κ : ℕ, cellInv EX (Rd m) κ (cell c k)))
          ∗ (bigSep Finset.univ fun k : Kd => pos c k) ∗ (bigSep Finset.univ fun k : Kd => reached EX (cell c k) 0)
          ∗ (bigSep Finset.univ fun x : Kd × Bool => dutyTok EX (cell c x.1) 0 x.2) ∗ zeros c) : sProp 𝕄) := by
  unfold G
  iintro ⟨Hos, Hus, Hst, Hat, Hr, Htok⟩
  ihave Hv := (sems_split (F := F) c) $$ [Hos Hus]
  · isplitl [Hos] <;> iassumption
  icases Hv with ⟨Hv, Hz⟩
  have h : iprop((bigSep Finset.univ fun k : Kd => zero c (xsem k)) ∗ bigSep Finset.univ fun k : Kd => roundState EX (Rd m) (cell c k) 0)
      ⊢ (|={Set.univ}=> bigSep Finset.univ fun k : Kd => iprop(∃ κ : ℕ, cellInv EX (Rd m) κ (cell c k)) : sProp 𝕄) := by
    rw [← bigSep_sep']
    exact (bigSep_mono fun k _ => (Rounds.body_intro EX (Rd m) (cell c k)).trans inv_alloc).trans (bigSep_fupd _ _)
  imod h $$ [Hv Hst] with Hinv
  · isplitl [Hv] <;> iassumption
  imodintro
  isplitl [Hinv]; · iexact Hinv
  isplitl [Hat]; · iexact Hat
  isplitl [Hr]; · iexact Hr
  isplitl [Htok]; · iexact Htok
  iexact Hz

/-- The device to whom a duty is owed, as a permutation of the devices. -/
def around (x : Kd × Bool) : Dev nD ≃ Dev nD := ⟨fun c => tgt c x, fun c => src c x, fun c => src_tgt c x, fun c => tgt_src c x⟩

/-- The fourteen duties, listed. -/
abbrev duties : List (Kd × Bool) := [(.bar, true), (.bar, false), (.snd 0, false), (.rcv 0, false), (.snd 1, false), (.rcv 1, false), (.fsd 0, false), (.frc 0, false), (.fsd 1, false), (.frc 1, false), (.fsd 2, false), (.frc 2, false), (.fsd 3, false), (.frc 3, false)]

omit [FloatOps F] in
theorem swap {A B : Type} [Fintype A] [Fintype B] [DecidableEq A] [DecidableEq B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), ← bigSep_univ_prod (fun p : B × A => Φ p.2 p.1)]
  exact bigSep_univ_equiv (Equiv.prodComm B A) fun p : A × B => Φ p.1 p.2

omit [FloatOps F] in
/-- The duties done TO each device, dealt out as the duties each device DOES. -/
theorem toks_around : (bigSep Finset.univ fun c : Dev nD => bigSep Finset.univ fun x : Kd × Bool => dutyTok EX (cell c x.1) 0 x.2 : sProp 𝕄)
    ⊢ bigSep Finset.univ fun c : Dev nD => toks c := by
  have h1 : (bigSep Finset.univ fun c : Dev nD => bigSep Finset.univ fun x : Kd × Bool => dutyTok EX (cell c x.1) 0 x.2 : sProp 𝕄)
      = bigSep Finset.univ fun c : Dev nD => bigSep Finset.univ fun x : Kd × Bool => tok c x := by
    rw [swap fun (c : Dev nD) (x : Kd × Bool) => (dutyTok EX (cell c x.1) 0 x.2 : sProp 𝕄), swap fun (c : Dev nD) (x : Kd × Bool) => (tok c x : sProp 𝕄)]
    exact bigSep_congr fun x _ => bigSep_univ_equiv (around x) fun c : Dev nD => (dutyTok EX (cell c x.1) 0 x.2 : sProp 𝕄)
  rw [h1]
  have h2 : ∀ c : Dev nD, (bigSep Finset.univ fun x : Kd × Bool => tok c x : sProp 𝕄) ⊢ toks c := fun c => by
    have h : (bigSep Finset.univ fun x : Kd × Bool => tok c x : sProp 𝕄) ⊢ bigSep duties.toFinset fun x => tok c x :=
      bigSep_subset (Finset.subset_univ _)
    have e : (bigSep duties.toFinset fun x => tok c x : sProp 𝕄) = iprop(tok c (.bar, true) ∗ tok c (.bar, false) ∗ tok c (.snd 0, false) ∗ tok c (.rcv 0, false) ∗ tok c (.snd 1, false) ∗ tok c (.rcv 1, false) ∗ tok c (.fsd 0, false) ∗ tok c (.frc 0, false) ∗ tok c (.fsd 1, false) ∗ tok c (.frc 1, false) ∗ tok c (.fsd 2, false) ∗ tok c (.frc 2, false) ∗ tok c (.fsd 3, false) ∗ tok c (.frc 3, false)) :=
      bigSep_eq_bigSepL_of_eq duties (by decide) (by decide) _
    rw [e] at h
    refine h.trans ?_
    iintro ⟨T0, T1, T2, T3, T4, T5, T6, T7, T8, T9, T10, T11, T12, T13⟩
    isplitl [T0 T1]; · isplitl [T0] <;> iassumption
    isplitl [T2 T3 T4 T5]
    · isplitl [T2]; · iexact T2
      isplitl [T3]; · iexact T3
      isplitl [T4]; · iexact T4
      iexact T5
    isplitl [T6 T7 T8 T9]
    · isplitl [T6]; · iexact T6
      isplitl [T7]; · iexact T7
      isplitl [T8]; · iexact T8
      iexact T9
    isplitl [T10]; · iexact T10
    isplitl [T11]; · iexact T11
    isplitl [T12]; · iexact T12
    iexact T13
  exact bigSep_mono fun c _ => h2 c

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  have h1 : iprop(R ∗ bigSep S Φ) ⊢ bigSep S fun i => iprop(R ∗ Φ i) := by
    rw [bigSep_sep']; exact sep_mono_left (BI.bigSep_of_persistent S R)
  exact h1.trans (bigSep_mono h)

omit [FloatOps F] in
theorem sep3 (A B C : Dev nD → sProp 𝕄) :
    (bigSep Finset.univ fun c => iprop(A c ∗ B c ∗ C c)) = iprop(bigSep Finset.univ A ∗ bigSep Finset.univ B ∗ bigSep Finset.univ C) := by
  rw [bigSep_sep', bigSep_sep']
omit [FloatOps F] in
theorem sep5 (A B C D E : Dev nD → sProp 𝕄) :
    (bigSep Finset.univ fun c => iprop(A c ∗ B c ∗ C c ∗ D c ∗ E c))
      = iprop(bigSep Finset.univ A ∗ bigSep Finset.univ B ∗ bigSep Finset.univ C ∗ bigSep Finset.univ D ∗ bigSep Finset.univ E) := by
  rw [bigSep_sep', bigSep_sep', bigSep_sep', bigSep_sep']

theorem regroup :
    (bigSep Finset.univ fun c : Dev nD => iprop((bigSep Finset.univ fun k : Kd => iprop(∃ κ : ℕ, cellInv EX (Rd m) κ (cell c k)))
          ∗ (bigSep Finset.univ fun k : Kd => pos c k) ∗ (bigSep Finset.univ fun k : Kd => reached EX (cell c k) 0)
          ∗ (bigSep Finset.univ fun x : Kd × Bool => dutyTok EX (cell c x.1) 0 x.2) ∗ zeros c) : sProp 𝕄)
      ⊢ bigSep Finset.univ (G' m) := by
  rw [sep5 (fun c : Dev nD => bigSep Finset.univ fun k : Kd => iprop(∃ κ : ℕ, cellInv EX (Rd m) κ (cell c k)))
      (fun c => bigSep Finset.univ fun k : Kd => pos c k) (fun c => bigSep Finset.univ fun k : Kd => reached EX (cell c k) 0)
      (fun c => bigSep Finset.univ fun x : Kd × Bool => dutyTok EX (cell c x.1) 0 x.2) (fun c => zeros c),
    ← bigSep_univ_prod (fun x : Dev nD × Kd => iprop(∃ κ : ℕ, cellInv EX (Rd m) κ (cell x.1 x.2))),
    ← bigSep_univ_prod (fun x : Dev nD × Kd => (reached EX (cell x.1 x.2) 0 : sProp 𝕄))]
  iintro ⟨HI, Hat, HR, Htok, Hz⟩
  ihave HK := (BI.bigSep_exists_pi Finset.univ (fun (x : Dev nD × Kd) (κ : ℕ) => (cellInv EX (Rd m) κ (cell x.1 x.2) : sProp 𝕄))) $$ HI
  icases HK with ⟨%Kn, HI⟩
  ihave Htk := (toks_around (F := F)) $$ Htok
  have h : ∀ c ∈ (Finset.univ : Finset (Dev nD)), iprop(recs₀ m ∗ ((bigSep Finset.univ fun k : Kd => pos c k) ∗ toks c ∗ zeros c)) ⊢ (G' m c : sProp 𝕄) :=
    fun c _ => by unfold G'; rw [bigSep_kinds]
  iapply (with_persistent h)
  isplitl [HI HR]
  · unfold recs₀
    iexists Kn
    isplitl [HI] <;> iassumption
  rw [sep3 (fun c : Dev nD => bigSep Finset.univ fun k : Kd => pos c k) (fun c => toks c) (fun c => zeros c)]
  isplitl [Hat]; · iexact Hat
  isplitl [Htk]; · iexact Htk
  iexact Hz

/-- The set-up of every device's cells at once. -/
theorem setup : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => cells_alloc m c).trans (bigSep_fupd _ _)).trans (BI.fupd_mono (regroup m))

/-! ## The credits dealt at launch -/

/-- The credits a device has for the listed debts of the others to it. -/
def due (c : Dev nD) : List (Kd × Bool) → sProp 𝕄
  | [] => iprop(emp)
  | x :: l => iprop(due c l ∗ cred (tallyAt (cell c x.1) () (amt x.1)))

omit [FloatOps F] in
theorem cred_one (c : Dev nD) (x : Kd × Bool) :
    (Pipeline.launchCred (fun d => tallyAt (cell (tgt d x) x.1) () (amt x.1)) c : sProp 𝕄) ⊢ cred (tallyAt (cell c x.1) () (amt x.1)) := by
  refine (Pipeline.launchCred_elim _ c (xsem x.1)).trans (Entails.of_eq (congrArg cred ?_))
  show tallyOn (cell c x.1) _ = tallyAt (cell c x.1) () (amt x.1)
  unfold tallyAt
  refine congrArg _ (Finsupp.ext fun u => ?_); cases u
  rw [Pipeline.launchCredit_owing, Finsupp.single_eq_same, Finset.sum_eq_single (src c x)]
  · rw [tgt_src]
    show tallyAt (cell c x.1) () (amt x.1) (cell c x.1) () = _
    rw [tallyAt_apply, if_pos ⟨rfl, rfl⟩]
  · intro d _ hd
    show tallyAt (cell (tgt d x) x.1) () (amt x.1) (cell c x.1) () = 0
    rw [tallyAt_apply, if_neg]
    rintro ⟨h, -⟩
    exact hd (by rw [(cell_inj h).1, src_tgt])
  · exact fun h => absurd (Finset.mem_univ _) h

omit [FloatOps F] in
theorem creds_of (c : Dev nD) (l : List (Kd × Bool)) : (Pipeline.launchCred (fun d => owe d l) c : sProp 𝕄) ⊢ due c l := by
  induction l with
  | nil => iintro -; unfold due; iempintro
  | cons x l ih =>
    have e : (Pipeline.launchCred (fun d => owe d (x :: l)) c : sProp 𝕄)
        = iprop(Pipeline.launchCred (fun d => owe d l) c ∗ Pipeline.launchCred (fun d => tallyAt (cell (tgt d x) x.1) () (amt x.1)) c) :=
      Pipeline.launchCred_add (fun d => owe d l) (fun d => tallyAt (cell (tgt d x) x.1) () (amt x.1)) c
    rw [e]
    exact BI.sep_mono ih (cred_one c x)

omit [FloatOps F] in
/-- The credits for the seven waits whose senders are other devices. -/
theorem creds (c : Dev nD) : (Pipeline.launchCred (fun d => owe d debts) c : sProp 𝕄) ⊢ crds c := by
  refine (creds_of c debts).trans ?_
  have hb : iprop(cred (tallyAt (cell c .bar) () 1) ∗ cred (tallyAt (cell c .bar) () 1)) ⊢ (crd c .bar : sProp 𝕄) := by
    have e : (tallyAt (cell c .bar) () (tot .bar) : CellTallies nD τ sig Unit) = tallyAt (cell c .bar) () 1 + tallyAt (cell c .bar) () 1 := by
      rw [show tot .bar = 1 + 1 from rfl, tallyAt_add]
    show _ ⊢ cred (tallyAt (cell c .bar) () (tot .bar))
    rw [e]
    exact (cred_add _ _).2
  have e : (due c debts : sProp 𝕄) = iprop((((((((emp ∗ crd c (.frc 3)) ∗ crd c (.frc 2)) ∗ crd c (.frc 1)) ∗ crd c (.frc 0)) ∗ crd c (.rcv 1)) ∗ crd c (.rcv 0))
      ∗ cred (tallyAt (cell c .bar) () 1)) ∗ cred (tallyAt (cell c .bar) () 1)) := rfl
  rw [e]
  iintro ⟨⟨⟨⟨⟨⟨⟨⟨-, C3⟩, C2⟩, C1⟩, C0⟩, R1⟩, R0⟩, B0⟩, B1⟩
  isplitl [B0 B1]
  · iapply hb
    isplitl [B0] <;> iassumption
  isplitl [R0]; · iexact R0
  isplitl [R1]; · iexact R1
  isplitl [C0]; · iexact C0
  isplitl [C1]; · iexact C1
  isplitl [C2]; · iexact C2
  iexact C3

end Cert.KernelIdeal.Exchange

end
-- ==== Proof.Run.lean ====
/-
The run: from any memory, every execution ends with each device's result written and its arguments unchanged.
-/
module

public import proofs.«01_k».proof.Proof.Start
public import proofs.«01_k».proof.Proof.Gen.KernelIdeal.Points
public import Idealize.ShloMosaic.Lib.Pipeline.CollectiveSegs
public import Idealize.ShloMosaic.Lib.Quiescent

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## What a device holds when its kernel starts and when it ends -/

/-- At the start, beside its scratch and its scales. -/
def start (c : Dev nD) : sProp 𝕄 :=
  iprop(recs m ∗ poss c ∗ toks c ∗ zeros c ∗ crds c ∗ owns (c : Thread nD τ) xA fullShare (xin m c) ∗ owns (c : Thread nD τ) wA fullShare (win m c) ∗ anyOf c oA)

/-- At the end, beside them: its arguments as they were and its result written. -/
def finish (c : Dev nD) : sProp 𝕄 :=
  iprop(owns (c : Thread nD τ) xA fullShare (xin m c) ∗ owns (c : Thread nD τ) wA fullShare (win m c) ∗ results m c)

def Φ₀ (c : Dev nD) : sProp 𝕄 := iprop(start m c ∗ scratch c)
def Φ₁ (c : Dev nD) : sProp 𝕄 := iprop(finish m c ∗ cellZeros c ∗ zeros c ∗ scratch c)

/-- The staging's proof data: the two scales, unchanged; the exchange's debts before the one point, none after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => sIn m c
    | ⟨1, _⟩ => tIn m c
  Φ t := match t with
    | ⟨0, _⟩ => Φ₀ m c
    | ⟨_ + 1, _⟩ => Φ₁ m c
  q _ := fullShare
  owed t := match t with
    | ⟨0, _⟩ => owe c debts
    | ⟨_ + 1, _⟩ => 0

abbrev t₀ : Fin cfg0.N := t0_0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem before_0 (c : Dev nD) (d) : (dats m ρ 0 c).before (0 : Fin 2) t₀ d = sIn m c := by
  unfold Dat.before; rw [if_pos (fetch0_0 t₀)]; exact funext fun i => congrArg (sIn m c) (Subsingleton.elim (α := S1.Idx) _ _)
theorem before_1 (c : Dev nD) (d) : (dats m ρ 0 c).before (1 : Fin 2) t₀ d = tIn m c := by
  unfold Dat.before; rw [if_pos (fetch0_1 t₀)]; exact funext fun i => congrArg (tIn m c) (Subsingleton.elim (α := S1.Idx) _ _)

/-- What the staging hands the body, and what it takes back. -/
def bodyPre (c : Dev nD) : sProp 𝕄 :=
  iprop(Φ₀ m c ∗ (dats m ρ 0 c).owesAt () t₀.castSucc
    ∗ (∃ d, owns (c : Thread nD τ) sA fullShare ((dats m ρ 0 c).before (0 : Fin 2) t₀ d))
    ∗ (∃ d, owns (c : Thread nD τ) tA fullShare ((dats m ρ 0 c).before (1 : Fin 2) t₀ d)))
def bodyPost (c : Dev nD) : sProp 𝕄 :=
  iprop(Φ₁ m c ∗ (dats m ρ 0 c).owesAt () t₀.succ ∗ owns (c : Thread nD τ) sA fullShare (sIn m c) ∗ owns (c : Thread nD τ) tA fullShare (tIn m c))

omit [FloatOps F] in
theorem owing_of (c : Dev nD) (l : List (Kd × Bool)) (W) : (owes (c : Thread nD τ) (owe c l) W : sProp 𝕄) ⊢ owing c l := by
  unfold owing; iintro H; iexists W; iexact H

theorem owesAt_first (c : Dev nD) : (dats m ρ 0 c).owesAt () t₀.castSucc ⊢ (owing c debts : sProp 𝕄) := by
  unfold Dat.owesAt Pipeline.owesWithin
  rw [show (dats m ρ 0 c).owed t₀.castSucc = owe c debts from rfl]
  iintro ⟨%W, -, HO⟩
  iapply (owing_of c debts W) $$ HO

theorem owesAt_last (c : Dev nD) : (owing c [] : sProp 𝕄) ⊢ (dats m ρ 0 c).owesAt () t₀.succ := by
  unfold Dat.owesAt Pipeline.owesWithin owing
  rw [show (dats m ρ 0 c).owed t₀.succ = owe c [] from rfl]
  iintro ⟨%W, HO⟩
  iexists W
  isplitr; · ipureintro; exact fun _ _ => Or.inl trivial
  iexact HO

theorem body_runs (c : Dev nD) : bodyPre m ρ c ⊢ wp frame (wpE (defs₀ (F := F)) 𝒱₀ c none) Set.univ
    (cc0_body xA (Memref.isWhole_whole _) wA (Memref.isWhole_whole _) sA (Memref.isWhole_whole _) tA (Memref.isWhole_whole _) oA (Memref.isWhole_whole _)
      xM (Memref.isWhole_whole _) wM (Memref.isWhole_whole _) lM (Memref.isWhole_whole _) rM (Memref.isWhole_whole _) dM (Memref.isWhole_whole _) gM (Memref.isWhole_whole _)
      cc0_scratch6 cc0_scratch7 cc0_scratch8 cc0_scratch9 cc0_scratch10 cc0_scratch11) (fun _ => bodyPost m ρ c) := by
  rw [cc0_body_eq_skeleton]
  unfold cc0_body_skel
  simp only [Prog.pure_eq_ret, wp_bind]
  unfold bodyPre Φ₀ start
  simp only [before_0, before_1]
  iintro ⟨⟨⟨HR, HP, HT, HZ, HC, HxA, HwA, HoA⟩, HS⟩, HO, ⟨%d0, HsA⟩, ⟨%d1, HtA⟩⟩
  ihave HO := (owesAt_first m ρ c) $$ HO
  iapply (program_spec m c (Memref.isWhole_whole _) (Memref.isWhole_whole _) (Memref.isWhole_whole _) (Memref.isWhole_whole _) (Memref.isWhole_whole _)
    (Memref.isWhole_whole _) (Memref.isWhole_whole _) (Memref.isWhole_whole _) (Memref.isWhole_whole _) (Memref.isWhole_whole _) (Memref.isWhole_whole _)) $$ [HR HP HT HZ HC HxA HwA HoA HS HO HsA HtA]
  · isplitl [HR]; · iexact HR
    isplitl [HO]; · iexact HO
    isplitl [HT]; · iexact HT
    isplitl [HP]; · iexact HP
    isplitl [HC]; · iexact HC
    isplitl [HZ]; · iexact HZ
    isplitl [HxA HwA HsA HtA]
    · isplitl [HxA]; · iexact HxA
      isplitl [HwA]; · iexact HwA
      isplitl [HsA]; · iexact HsA
      iexact HtA
    isplitl [HoA]; · iexact HoA
    iexact HS
  iintro ⟨HO, Hcz, Hz, ⟨HxA, HwA, HsA, HtA⟩, Hres, HS⟩
  rw [wp_ret]
  imodintro
  unfold bodyPost Φ₁ finish
  isplitr [HO HsA HtA]
  · isplitl [HxA HwA Hres]
    · isplitl [HxA]; · iexact HxA
      isplitl [HwA]; · iexact HwA
      iexact Hres
    isplitl [Hcz]; · iexact Hcz
    isplitl [Hz]; · iexact Hz
    iexact HS
  isplitl [HO]; · iapply (owesAt_last m ρ c) $$ HO
  isplitl [HsA] <;> iassumption

set_option maxRecDepth 4000 in
/-- The staging's obligation on the body of device `c`. -/
theorem body_obligation (c : Dev nD) : BodyObligation (dats (F := F) m ρ 0 c) (defs₀ (F := F)) 𝒱₀ () Set.univ := fun t => by
  rw [fin_N0 t]
  rw [bigSep_W0, bigSep_W0]
  exact body_runs m ρ c

theorem share_eq (c : Dev nD) (w : Fin cfg0.W) : (dats m ρ 0 c).share w = fullShare := by unfold Dat.share; split <;> rfl

/-! ## The theorem's side conditions -/

omit [FloatOps F] in
theorem own_whole (c : Dev nD) (b : Ref sig .tc) (f : Buf (Elt F) ((c : Thread nD τ).loc b)) :
    (((c : Thread nD τ).loc b) ↦{fullShare} f : sProp 𝕄) ⊢ owns (c : Thread nD τ) (Memref.whole b) fullShare f := by
  rw [owns_whole_eq]
  iintro H
  iexists f
  isplitr; · ipureintro; rfl
  iexact H

omit [FloatOps F] in
theorem any_whole {sp : Space} {s : Shape} {e : EltTy} (c : Dev nD) (M : Memref sig .tc sp s e) (f : Buf (Elt F) (M.view.loc (c : Thread nD τ))) :
    (M.view.loc (c : Thread nD τ) ↦[M.view.set]{fullShare} f : sProp 𝕄) ⊢ anyOf c M :=
  (owns_intro (c : Thread nD τ) M fullShare f).trans (anyOf_intro c M _)

omit [FloatOps F] in
theorem scratch_iff (c : Dev nD) : (Pipeline.scopedRest cfg0.spec c : sProp 𝕄) ⊣⊢ scratch c := by
  have e : (Pipeline.scopedRest cfg0.spec c : sProp 𝕄) = scratch c := by
    rw [scopedRest0_eq]
    have h : ∀ (b : Ref sig .tc), (iprop(∃ f : Buf (Elt F) ((c : Thread nD τ).loc b), ((c : Thread nD τ).loc b) ↦{fullShare} f) : sProp 𝕄)
        = iprop(∃ X : b.ty.Contents (Elt F), owns (c : Thread nD τ) (Memref.whole b) fullShare X) := fun b => by
      have h1 : (iprop(∃ f : Buf (Elt F) ((c : Thread nD τ).loc b), ((c : Thread nD τ).loc b) ↦{fullShare} f) : sProp 𝕄)
          ⊢ iprop(∃ X : b.ty.Contents (Elt F), owns (c : Thread nD τ) (Memref.whole b) fullShare X) := by
        iintro ⟨%f, H⟩
        iexists f
        iapply (own_whole c b f) $$ H
      have h2 : (iprop(∃ X : b.ty.Contents (Elt F), owns (c : Thread nD τ) (Memref.whole b) fullShare X) : sProp 𝕄)
          ⊢ iprop(∃ f : Buf (Elt F) ((c : Thread nD τ).loc b), ((c : Thread nD τ).loc b) ↦{fullShare} f) := by
        simp only [owns_whole_eq]
        iintro ⟨%X, %f, -, H⟩
        iexists f; iexact H
      exact BI.Entails.antisymm h1 h2
    rw [h cc0_scratch0, h cc0_scratch1, h cc0_scratch2, h cc0_scratch3, h cc0_scratch4, h cc0_scratch5]
    rfl
  exact ⟨Entails.of_eq e, Entails.of_eq e.symm⟩

theorem start_intro (c : Dev nD) :
    iprop(Pipeline.unscopedRestP Pipeline.Prefetch.none cfg0.spec c (fun b => m ((c : Thread nD τ).loc b)) ∗ levAts L lv
        ∗ Pipeline.launchCred (fun d => owe d debts) c ∗ prngReg c (ρ c) ∗ G' m c)
      ⊢ |={Set.univ}=> (iprop(start m c ∗ emp) : sProp 𝕄) := by
  rw [Pipeline.unscopedRestP_none, unscopedRest0_eq]
  unfold G' recs₀
  iintro ⟨⟨HxA, HwA, HoA⟩, Hlev, Hcr, -, ⟨%Kn, HI, HR⟩, HP, HT, HZ⟩
  ihave Hc := (creds (F := F) c) $$ Hcr
  imodintro
  unfold start recs
  isplitl
  · isplitl [Hlev HI HR]
    · iexists Kn
      isplitl [HI]; · iexact HI
      isplitl [HR] <;> iassumption
    isplitl [HP]; · iexact HP
    isplitl [HT]; · iexact HT
    isplitl [HZ]; · iexact HZ
    isplitl [Hc]; · iexact Hc
    isplitl [HxA]; · iapply (own_whole c main_arg0 (m ((c : Thread nD τ).loc main_arg0))) $$ HxA
    isplitl [HwA]; · iapply (own_whole c main_arg1 (m ((c : Thread nD τ).loc main_arg1))) $$ HwA
    iapply ((own_whole c main_v1 (m ((c : Thread nD τ).loc main_v1))).trans (anyOf_intro c oA _)) $$ HoA
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_iff c).1 $$ Hr

theorem phi1_exit (c : Dev nD) :
    (dats m ρ 0 c).Φ (Fin.last cfg0.N) ⊢ iprop((finish m c ∗ unscopedSems0 c) ∗ Pipeline.ownSems0 osem c ∗ Pipeline.scopedRest cfg0.spec c) := by
  rw [show (dats m ρ 0 c).Φ (Fin.last cfg0.N) = Φ₁ m c from rfl]
  unfold Φ₁
  iintro ⟨Hf, Hcz, Hz, Hs⟩
  ihave H := (sems_join (F := F) c) $$ [Hcz Hz]
  · isplitl [Hcz] <;> iassumption
  icases H with ⟨Hu, Ho⟩
  isplitl [Hf Hu]
  · isplitl [Hf] <;> iassumption
  isplitl [Ho]; · iexact Ho
  iapply (scratch_iff c).2 $$ Hs

theorem waits (c : Dev nD) : (levAts L lv : sProp 𝕄) ⊢ Pipeline.cellsWaits cfgs (dats m ρ) () 0 c :=
  Pipeline.cellsWaits_intro cfgs (dats m ρ) () 0 c fun w s t => by
    have hs : ∀ (w : Fin 2) (s : Fin (spec0 w).nbuf) (k : Kd), xsem k ≠ .dma ((spec0 w).sem s) := by decide
    rcases t with ⟨_ | _, ht⟩
    · exact mayWait c _ 0 debts (le_of_eq (lv_none c _ (hs w s))) (by decide)
    · exact mayWait c _ 0 [] (le_of_eq (lv_none c _ (hs w s))) (by decide)

/-! ## The run -/

/-- What is read off the final memory at device `c`: the arguments as launched, the seven pieces of the result at what the device wrote, and
the barrier at zero. -/
def Read (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ ((o1 c).view.read (Elt F) (s.mem ((c : Thread nD τ).loc main_v1)) = v1 m c ∧ (o2 c).view.read (Elt F) (s.mem ((c : Thread nD τ).loc main_v1)) = v2 m c ∧ (o3 c).view.read (Elt F) (s.mem ((c : Thread nD τ).loc main_v1)) = v3 m c ∧ (o4 c).view.read (Elt F) (s.mem ((c : Thread nD τ).loc main_v1)) = v4 m c ∧ (o5 c).view.read (Elt F) (s.mem ((c : Thread nD τ).loc main_v1)) = v5 m c ∧ (o6 c).view.read (Elt F) (s.mem ((c : Thread nD τ).loc main_v1)) = v6 m c ∧ (o7 c).view.read (Elt F) (s.mem ((c : Thread nD τ).loc main_v1)) = v7 m c)

omit [FloatOps F] in
/-- What is owned is what the memory holds. -/
theorem owns_read {sp : Space} {s : Shape} {e : EltTy} (c : Dev nD) (M : Memref sig .tc sp s e) (X : s.Idx → Elt F e) (s' : Phys nD τ sig (Elt F)) :
    iprop(owns (c : Thread nD τ) M fullShare X ∗ SI s') ⊢ (iprop(⌜M.view.read (Elt F) (s'.mem.mem (M.view.loc (c : Thread nD τ))) = X⌝ ∗ SI s') : sProp 𝕄) := by
  unfold owns
  iintro ⟨⟨%f, %hf, H⟩, HSI⟩
  icombine HSI H gives %h
  isplitr
  · ipureintro
    rw [← hf]
    exact View.read_congr h
  iexact HSI

theorem final_read (c : Dev nD) (s' : Phys nD τ sig (Elt F)) :
    iprop(finish m c ∗ SI s') ⊢ (iprop(⌜Read m c s'.mem⌝ ∗ SI s') : sProp 𝕄) := by
  unfold finish
  iintro ⟨⟨HxA, HwA, R1, R2, R3, R4, R5, R6, R7⟩, HS⟩
  ihave H := (owns_read c xA _ s') $$ [HxA HS]
  · isplitl [HxA] <;> iassumption
  icases H with ⟨%hx, HS⟩
  ihave H := (owns_read c wA _ s') $$ [HwA HS]
  · isplitl [HwA] <;> iassumption
  icases H with ⟨%hw, HS⟩
  ihave H := (owns_read c (o1 c) _ s') $$ [R1 HS]
  · isplitl [R1] <;> iassumption
  icases H with ⟨%h1, HS⟩
  ihave H := (owns_read c (o2 c) _ s') $$ [R2 HS]
  · isplitl [R2] <;> iassumption
  icases H with ⟨%h2, HS⟩
  ihave H := (owns_read c (o3 c) _ s') $$ [R3 HS]
  · isplitl [R3] <;> iassumption
  icases H with ⟨%h3, HS⟩
  ihave H := (owns_read c (o4 c) _ s') $$ [R4 HS]
  · isplitl [R4] <;> iassumption
  icases H with ⟨%h4, HS⟩
  ihave H := (owns_read c (o5 c) _ s') $$ [R5 HS]
  · isplitl [R5] <;> iassumption
  icases H with ⟨%h5, HS⟩
  ihave H := (owns_read c (o6 c) _ s') $$ [R6 HS]
  · isplitl [R6] <;> iassumption
  icases H with ⟨%h6, HS⟩
  ihave H := (owns_read c (o7 c) _ s') $$ [R7 HS]
  · isplitl [R7] <;> iassumption
  icases H with ⟨%h7, HS⟩
  isplitr
  · ipureintro
    exact ⟨hx, hw, h1, h2, h3, h4, h5, h6, h7⟩
  iexact HS

theorem deal_of : BI.own (((Emb.inl : Emb UB (UB × Counters)).trans embR) (initOf xCells xToks)) ⊢ (|==> bigSep Finset.univ (G m) : sProp 𝕄) :=
  deal m

/-- The outcome: at every device what is read, the scales as launched, and every semaphore at zero. -/
def QC : PUnit × MemSt nD τ sig (Elt F) → Prop := fun r =>
  (∀ c : Dev nD, Read m c r.2 ∧ r.2.mem ((c : Thread nD τ).loc main_arg2) = m ((c : Thread nD τ).loc main_arg2)
    ∧ r.2.mem ((c : Thread nD τ).loc main_arg3) = m ((c : Thread nD τ).loc main_arg3)) ∧ r.2.sem = fun _ => 0

set_option maxRecDepth 8000 in
/-- At the compiled mesh of four devices, for any float values and from any memory with zero counters, every weakly fair execution ends, each
device's result written piece by piece as above, its arguments unchanged and every semaphore at zero. -/
theorem run_main : θ_run defs (onTc (τ := τ) (main (F := F))) (s₀ m ρ) (QC m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := fun d => owe d debts) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H := (own_pair_emb embR (initOf xCells xToks) (1 : Counters)) $$ HX
      icases H with ⟨HX, -⟩
      imod (deal_of m) $$ HX with HG
      imodintro
      isplitl [HP] <;> iassumption)
    (hglob := setup m)
    (hA := fun _ _ => rfl) (hpf := fun _ k => k.elim0)
    (X := start m) (Y := fun c => iprop(finish m c ∗ unscopedSems0 c)) (Z := fun _ => iprop(emp))
    (hX := start_intro m ρ) (hin := phi0_intro m ρ) (hout := phi1_exit m ρ)
    (QY := fun c s => Read m c s ∧ ∀ sm : SemLoc sig, sm.isScoped .tc = false → s.sem ((c.tc : Thread nD τ), sm) = 0)
    (hY := fun c s' => by
      iintro ⟨⟨Hf, Hu⟩, -, HSI⟩
      ihave H := (final_read m c s') $$ [Hf HSI]
      · isplitl [Hf] <;> iassumption
      icases H with ⟨%hf, HSI⟩
      imod (Pipeline.unscopedSems0_read (X := unscopedSems0 c) (c := c) fupd_intro s') $$ [Hu HSI] with ⟨%hz, HSI⟩
      · isplitl [Hu] <;> iassumption
      imodintro
      isplitr; · ipureintro; exact ⟨hf, hz⟩
      iexact HSI)
    (hQ := fun _ h hs => ⟨fun c => ⟨(h c).2.2.1, ((h c).1 0).trans ((dats (F := F) m ρ 0 c).arrAt_in (0 : Fin 2) rfl _),
      ((h c).1 1).trans ((dats (F := F) m ρ 0 c).arrAt_in (1 : Fin 2) rfl _)⟩, sem_eq_zero hs fun c => (h c).2.2.2⟩)

end Cert.KernelIdeal.Exchange

end
-- ==== Proof.Result.lean ====
/-
What the result's array of a device holds after the run, over the extended reals: at row `i` and column `j` the entry of
row `i` of the whole `x` and of column `j` of the device's part of `w`.

The rows come in seven pieces: the device's own block, its two neighbours' blocks, and the four quarters of the block of
the device opposite. Each piece is a block product, read off by one lemma; which rows it covers is its offset.
-/
module

public import proofs.«01_k».proof.Proof.Run
public import proofs.«01_k».proof.Proof.Product

@[expose] public section

noncomputable section

namespace Cert.KernelIdeal.Exchange

open Cert.KernelIdeal Cert.KernelIdeal.Gen Cert.Product

open Idealize.ShloMosaic Idealize.ShloMosaic.TcCoe Idealize.ShloMosaic.ValueIdx

variable (m : (ℓ : Loc nD τ sig) → Buf (Elt Ideal) ℓ)

/-! ## One entry of a piece -/

/-- A block stored with a leading axis of one and read without it is the block. -/
theorem flatB_cast (v : S1024x512.Idx → Elt Ideal .f32) : flatB (F := Ideal) (shapeCast S1x1024x512 v shapeCasts_S1024x512_S1x1024x512) = v := funext fun i => by
  unfold flatB shapeCast
  rw [Shape.reshapeEquiv_reshapeEquiv, Shape.reshapeEquiv_self]

/-- The same for a quarter. -/
theorem flatQ_cast (v : S256x512.Idx → Elt Ideal .f32) : flatQ (F := Ideal) (shapeCast S1x256x512 v shapeCasts_S256x512_S1x256x512) = v := funext fun i => by
  unfold flatQ shapeCast
  rw [Shape.reshapeEquiv_reshapeEquiv, Shape.reshapeEquiv_self]

/-- The block product of `X` and `W` with scale `s`, cut at zero, whatever its number of rows. -/
def blockOf (M : ℕ) (X : IVec ⟨2, ![M, 4096]⟩ 8) (W : IVec S4096x512 8) (s : Ideal .f32) : (⟨2, ![M, 512]⟩ : Shape).Idx → Ideal .f32 :=
  maximumf (mulf (sitofp .f32 (matmulI8 IntMxuNumerics.v7x (DotDims.plain M 4096 512) X W (constantI _ 32 0#32)))
    (broadcast ⟨2, ![M, 512]⟩ s)) (broadcast ⟨2, ![M, 512]⟩ (Scalar.ofBits (F := Ideal) .f32 0x00000000#32))

variable (c : Dev nD)

theorem v1_eq : v1 m c = blockOf 1024 (xin m c) (win m c) (scl m c) := flatB_cast _
theorem v2_eq : v2 m c = blockOf 1024 (xin m (left c)) (win m c) (scl m c) := flatB_cast _
theorem v3_eq : v3 m c = blockOf 1024 (xin m (right c)) (win m c) (scl m c) := flatB_cast _
theorem v4_eq : v4 m c = blockOf 256 (rowsOf (xin m (opp c)) 0) (win m c) (scl m c) := flatQ_cast _
theorem v5_eq : v5 m c = blockOf 256 (rowsOf (xin m (opp c)) 1) (win m c) (scl m c) := flatQ_cast _
theorem v6_eq : v6 m c = blockOf 256 (rowsOf (xin m (opp c)) 2) (win m c) (scl m c) := flatQ_cast _
theorem v7_eq : v7 m c = blockOf 256 (rowsOf (xin m (opp c)) 3) (win m c) (scl m c) := flatQ_cast _

/-! ## Where a piece lies -/

theorem off1_eq : k0_off1 c = ![1024 * c.val, 0] := by revert c; decide +kernel
theorem off2_eq : k0_off2 c = ![1024 * (left c).val, 0] := by revert c; decide +kernel
theorem off3_eq : k0_off3 c = ![1024 * (right c).val, 0] := by revert c; decide +kernel
theorem off4_eq (j : Fin 4) : k0_off4 c (BitVec.ofNat 32 (256 * j.val)) = ![1024 * (opp c).val + 256 * j.val, 0] := by
  revert c j; decide +kernel

/-- An array whose piece from row `o` on reads as `V` holds `V`'s rows from row `o` on. -/
theorem at_piece (n o : ℕ) (off : Fin 2 → ℕ) (hoff : off = ![o, 0]) (inb : ∀ a, off a + (⟨2, ![n, 512]⟩ : Shape).size a ≤ S4096x512.size a)
    (f : S4096x512.Idx → Elt Ideal .f32) (V : (⟨2, ![n, 512]⟩ : Shape).Idx → Elt Ideal .f32)
    (h : (oA.slice (Rect.unit (s := S4096x512) off (⟨2, ![n, 512]⟩ : Shape).size inb) (fun _ => rfl)).view.read (Elt Ideal) f = V)
    (i : Fin 4096) (r : Fin n) (hi : i.val = o + r.val) (j : Fin 512) : f (ix2 i j) = V (ix2 r j) := by
  subst hoff
  rw [← h]
  show f _ = f _
  refine congrArg f (funext fun a => Fin.ext ?_)
  match a with
  | ⟨0, _⟩ => exact hi.trans (congrArg (o + ·) (Nat.one_mul _).symm)
  | ⟨1, _⟩ => exact (Nat.zero_add _).symm.trans (congrArg (0 + ·) (Nat.one_mul _).symm)

/-! ## The whole array -/

/-- The device that holds row `i` of the whole `x`, and the row's place there. -/
def holder (i : Fin 4096) : Dev nD := ⟨i.val / 1024, Nat.div_lt_of_lt_mul i.isLt⟩
def place (i : Fin 4096) : Fin 1024 := ⟨i.val % 1024, Nat.mod_lt _ (by decide)⟩
/-- Row `i` of the whole `x`, from the parts the devices hold. -/
def rowAt (i : Fin 4096) : Fin 4096 → BitVec 8 := fun k => xin m (holder i) (ix2 (place i) k)
/-- Column `j` of device `c`'s part of `w`. -/
def colAt (j : Fin 512) : Fin 4096 → BitVec 8 := fun k => win m c (ix2 k j)

theorem four_devices (d : Dev nD) : d = c ∨ d = left c ∨ d = right c ∨ d = opp c := by revert c d; decide

variable (hrow : ∀ i, Tame (rowAt m i)) (hcol : ∀ j, Tame (colAt m c j))
include hrow hcol

/-- A block's piece holds the entries of its rows. -/
theorem of_block (d : Dev nD) (i : Fin 4096) (hd : holder i = d) (j : Fin 512) :
    blockOf 1024 (xin m d) (win m c) (scl m c) (ix2 (place i) j) = entry (rowAt m i) (colAt m c j) (scl m c) := by
  subst hd
  exact block_entry 1024 512 (xin m (holder i)) (win m c) (scl m c) (place i) j (hrow i) (hcol j)

/-- A quarter's piece holds the entries of its rows. -/
theorem of_quarter (d : Dev nD) (q : Fin 4) (i : Fin 4096) (hd : holder i = d) (r : Fin 256) (hr : (place i).val = 256 * q.val + r.val) (j : Fin 512) :
    blockOf 256 (rowsOf (xin m d) q) (win m c) (scl m c) (ix2 r j) = entry (rowAt m i) (colAt m c j) (scl m c) := by
  subst hd
  have he : (fun k => rowsOf (xin m (holder i)) q (ix2 r k)) = rowAt m i := funext fun k => by
    refine congrArg (xin m (holder i)) (funext fun a => Fin.ext ?_)
    match a with
    | ⟨0, _⟩ => exact (congrArg (256 * q.val + ·) (Nat.one_mul _)).trans hr.symm
    | ⟨1, _⟩ => exact (Nat.zero_add _).trans (Nat.one_mul _)
  have h := block_entry 256 512 (rowsOf (xin m (holder i)) q) (win m c) (scl m c) r j (he ▸ hrow i) (hcol j)
  rw [he] at h
  exact h

/-- After the run device `c`'s result holds at `(i, j)` the entry of row `i` of `x` and column `j` of its part of `w`. -/
theorem result_at (s : MemSt nD τ sig (Elt Ideal)) (h : Read m c s) (i : Fin 4096) (j : Fin 512) :
    s.mem ((c : Thread nD τ).loc main_v1) (ix2 i j) = entry (rowAt m i) (colAt m c j) (scl m c) := by
  obtain ⟨-, -, h1, h2, h3, h4, h5, h6, h7⟩ := h
  have hi : i.val = 1024 * (holder i).val + (place i).val := (Nat.div_add_mod i.val 1024).symm
  rcases four_devices c (holder i) with hd | hd | hd | hd
  · rw [at_piece 1024 _ _ (off1_eq c) (k0_off1_inb c) _ _ h1 i (place i) (hd ▸ hi) j, v1_eq]
    exact of_block m c hrow hcol c i hd j
  · rw [at_piece 1024 _ _ (off2_eq c) (k0_off2_inb c) _ _ h2 i (place i) (hd ▸ hi) j, v2_eq]
    exact of_block m c hrow hcol (left c) i hd j
  · rw [at_piece 1024 _ _ (off3_eq c) (k0_off3_inb c) _ _ h3 i (place i) (hd ▸ hi) j, v3_eq]
    exact of_block m c hrow hcol (right c) i hd j
  · have hq : ∀ (q : Fin 4) (V : S256x512.Idx → Elt Ideal .f32),
        (oA.slice (Rect.unit (s := S4096x512) (k0_off4 c (BitVec.ofNat 32 (256 * q.val))) S256x512.size (k0_off4_inb c q)) (fun _ => rfl)).view.read (Elt Ideal)
          (s.mem ((c : Thread nD τ).loc main_v1)) = V →
        V = blockOf 256 (rowsOf (xin m (opp c)) q) (win m c) (scl m c) → (place i).val / 256 = q.val →
        s.mem ((c : Thread nD τ).loc main_v1) (ix2 i j) = entry (rowAt m i) (colAt m c j) (scl m c) := by
      intro q V hV hE hp
      have hr : (place i).val = 256 * q.val + (place i).val % 256 := by rw [← hp]; exact (Nat.div_add_mod _ _).symm
      rw [at_piece 256 _ _ (off4_eq c q) (k0_off4_inb c q) _ _ hV i ⟨(place i).val % 256, Nat.mod_lt _ (by decide)⟩
        (by rw [hi, hd, Nat.add_assoc]; exact congrArg (1024 * (opp c).val + ·) hr) j, hE]
      exact of_quarter m c hrow hcol (opp c) q i hd _ hr j
    have hlt : (place i).val / 256 < 4 := Nat.div_lt_of_lt_mul (place i).isLt
    obtain h0 | h0 | h0 | h0 : (place i).val / 256 = 0 ∨ (place i).val / 256 = 1 ∨ (place i).val / 256 = 2 ∨ (place i).val / 256 = 3 := by omega
    · exact hq 0 _ h4 (v4_eq m c) h0
    · exact hq 1 _ h5 (v5_eq m c) h0
    · exact hq 2 _ h6 (v6_eq m c) h0
    · exact hq 3 _ h7 (v7_eq m c) h0

end Cert.KernelIdeal.Exchange

end
-- ==== Proof.Equation.lean ====
/-
The reference's result at row `i` and column `j`, over the extended reals, and the equation: each device's result of the
kernel is its part of the reference's result.
-/
module

public import proofs.«01_k».proof.Proof.Result
public import proofs.«01_k».proof.Proof.Gen.ReferenceIdeal.Run
public import Idealize.ShloMosaic.Lib.StackMember
public import Idealize.ShloMosaic.Lib.Layout

@[expose] public section

noncomputable section

namespace Cert.Equation

open Cert.Product Cert.KernelIdeal.Exchange

open Idealize.ShloMosaic Idealize.ShloMosaic.TcCoe Idealize.ShloMosaic.ValueIdx

section Reference

open Cert.ReferenceIdeal Cert.ReferenceIdeal.Gen

/-- The reference's result as a function of its arguments. -/
def whole (X : IVec S4096x4096 8) (W : IVec S4096x2048 8) (s t : FVec Ideal S1 .f32) : FVec Ideal S4096x2048 .f32 :=
  maximumf (mulf (Host.dotGeneral dot_S4096x4096_S4096x2048_S4096x2048_1_0_0_1_n_n none (sitofp .f32 (extsi 32 X natLt_8_32)) (sitofp .f32 (extsi 32 W natLt_8_32)))
    (broadcastInDim S4096x2048 ![0, 1] bcast_S1x1_S4096x2048_0_1 (broadcastInDim S1x1 ![1] bcast_S1_S1x1_1 (mulf s t))))
    (broadcastInDim S4096x2048 ![] bcast_S_S4096x2048 (constant S_ .f32 0x00000000#32))

/-- A signed byte widened to 32 bits and read as a float is the integer it stands for. -/
theorem widened (x : BitVec 8) : (FloatOps.sitofp .f32 (x.signExtend 32) : Ideal .f32) = (((x.toInt : ℝ)) : EReal) := by
  show (((x.signExtend 32).toInt : ℝ) : EReal) = _
  rw [BitVec.toInt_signExtend_of_le (by decide)]

/-- At row `i` and column `j` the reference holds the entry of row `i` of `X` and column `j` of `W`. -/
theorem whole_at (X : IVec S4096x4096 8) (W : IVec S4096x2048 8) (s t : FVec Ideal S1 .f32) (i : Fin 4096) (j : Fin 2048) (o : S1.Idx) :
    whole X W s t (ix2 i j) = entry (fun k => X (ix2 i k)) (fun k => W (ix2 k j)) (s o * t o) := by
  have hsum : Host.dotGeneral dot_S4096x4096_S4096x2048_S4096x2048_1_0_0_1_n_n none (sitofp (F := Ideal) .f32 (extsi 32 X natLt_8_32))
      (sitofp (F := Ideal) .f32 (extsi 32 W natLt_8_32)) (ix2 i j) = (((dot (fun k => X (ix2 i k)) (fun k => W (ix2 k j)) : ℤ) : ℝ) : EReal) := by
    refine (StackMember.dotGeneral_plain_apply (m := 4096) (k := 4096) (n := 2048) none _ _ i j).trans (Eq.trans ?_ (sum_products _ _))
    exact Finset.sum_congr rfl fun k _ => congrArg₂ (· * ·) (widened _) (widened _)
  have ho : ∀ p : S1.Idx, p = o := fun p => funext fun a => Fin.ext (by
    have h1 : (p a).val < 1 := by match a with | ⟨0, _⟩ => exact (p 0).isLt
    have h2 : (o a).val < 1 := by match a with | ⟨0, _⟩ => exact (o 0).isLt
    omega)
  unfold whole
  rw [maximumf_apply, mulf_apply, hsum]
  unfold entry
  refine congrArg₂ max (congrArg (_ * ·) ?_) Ideal.ofBits_zero_f32
  show s _ * t _ = s o * t o
  exact congrArg₂ (· * ·) (congrArg s (ho _)) (congrArg t (ho _))

end Reference

open Cert.KernelIdeal

variable (m : (ℓ : Loc nD τ sig) → Buf (Elt Ideal) ℓ) (X : IVec ⟨2, ![4096, 4096]⟩ 8) (W : IVec ⟨2, ![4096, 2048]⟩ 8) (s t : FVec Ideal ⟨1, ![1]⟩ .f32)

/-- Row `i` of the whole, read at the device that holds it. -/
theorem row_of (h : ∀ c, xin m c = Layout.block ⟨2, ![1024, 4096]⟩ ⟨2, ![4096, 4096]⟩ 0 4 c X) (i : Fin 4096) :
    rowAt m i = fun k => X (ix2 i k) := funext fun k => by
  unfold rowAt
  rw [h, Layout.block_apply]
  refine congrArg X (funext fun a => Fin.ext ?_)
  match a with
  | ⟨0, _⟩ => exact Nat.div_add_mod' i.val 1024
  | ⟨1, _⟩ => rfl

/-- What each device's result holds after the run is its part of the reference's result. -/
theorem result_eq (hX : ∀ c, xin m c = Layout.block ⟨2, ![1024, 4096]⟩ ⟨2, ![4096, 4096]⟩ 0 4 c X)
    (hW : ∀ c, win m c = Layout.block ⟨2, ![4096, 512]⟩ ⟨2, ![4096, 2048]⟩ 1 4 c W) (hs : ∀ c, sIn m c = s) (ht : ∀ c, tIn m c = t)
    (hrow : ∀ c (r : Fin 1024), Tame fun k => xin m c (ix2 r k)) (hcol : ∀ c (j : Fin 512), Tame fun k => win m c (ix2 k j))
    (c : Dev nD) (M : MemSt nD τ sig (Elt Ideal)) (h : Read m c M) :
    M.mem ((c : Thread nD τ).loc main_v1) = Layout.block ⟨2, ![4096, 512]⟩ ⟨2, ![4096, 2048]⟩ 1 4 c (whole X W s t) := funext fun p => by
  obtain ⟨i, j, rfl⟩ : ∃ (i : Fin 4096) (j : Fin 512), p = ix2 i j := ⟨p 0, p 1, eq_ix2 p⟩
  refine (result_at m c (fun i => hrow _ _) (fun j => hcol c j) M h i j).trans ?_
  have hj : c.val * 512 + j.val < 2048 := by have hc : c.val < 4 := c.isLt; have := j.isLt; omega
  have hp : whole X W s t (ix2 i ⟨c.val * 512 + j.val, hj⟩) = Layout.block ⟨2, ![4096, 512]⟩ ⟨2, ![4096, 2048]⟩ 1 4 c (whole X W s t) (by decide) (ix2 i j) := by
    rw [Layout.block_apply]
    refine congrArg (whole X W s t) (funext fun a => Fin.ext ?_)
    match a with
    | ⟨0, _⟩ => rfl
    | ⟨1, _⟩ => rfl
  rw [← hp, whole_at X W s t i _ only, row_of m X hX i]
  have hc : colAt m c j = fun k => W (ix2 k ⟨c.val * 512 + j.val, hj⟩) := funext fun k => by
    unfold colAt
    rw [hW, Layout.block_apply]
    refine congrArg W (funext fun a => Fin.ext ?_)
    match a with
    | ⟨0, _⟩ => rfl
    | ⟨1, _⟩ => rfl
  rw [hc, ← hs c, ← ht c]
  rfl

end Cert.Equation

end
-- ==== Proof.Same.lean ====
/-
The kernel as given and the kernel prepared for reading over the extended reals are the same program, body by body, so a
run of one is a run of the other.
-/
module

public import proofs.«01_k».proof.Proof.Gen.Kernel
public import proofs.«01_k».proof.Proof.Gen.KernelIdeal
public import Idealize.ShloMosaic.Adequacy

@[expose] public section

noncomputable section

namespace Cert.Same

open Idealize.ShloMosaic Idealize.SL.Sem

variable {F : FTy → Type} [FloatOps F]

/-- Label by label the two tables of kernel bodies agree. -/
theorem bodies_eq : Cert.Kernel.defs₀ (F := F) = Cert.KernelIdeal.defs₀ (F := F) := by
  refine congrArg Defs.onTc (funext fun l => funext fun a => ?_)
  match l, a with
  | ⟨0, _⟩, (t, s) => exact rfl

/-- So do the tables with the pipelines added. -/
theorem defs_eq : Cert.Kernel.defs (F := F) = Cert.KernelIdeal.defs (F := F) :=
  congrArg (Pipeline.defs (Cert.KernelIdeal.pcfgs (F := F))) bodies_eq

/-- What holds after the one's run holds after the other's. -/
theorem run_eq (s : MemSt Cert.KernelIdeal.nD Cert.KernelIdeal.τ Cert.KernelIdeal.sig (Elt F))
    (Q : PUnit × MemSt Cert.KernelIdeal.nD Cert.KernelIdeal.τ Cert.KernelIdeal.sig (Elt F) → Prop) :
    θ_run (Cert.Kernel.defs (F := F)) (onTc (τ := Cert.Kernel.τ) (Cert.Kernel.main (F := F))) s Q
      = θ_run (Cert.KernelIdeal.defs (F := F)) (onTc (τ := Cert.KernelIdeal.τ) (Cert.KernelIdeal.main (F := F))) s Q :=
  congrArg (fun d => θ_run d (onTc (τ := Cert.KernelIdeal.τ) (Cert.KernelIdeal.main (F := F))) s Q) defs_eq

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_rows_tame_KernelIdeal
public import proofs.«01_k».proof.Proof.Gen.Pre_rows_tame_ReferenceIdeal
public import proofs.«01_k».proof.Proof.Bounds
public import proofs.«01_k».proof.Proof.Equation
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.ShloMosaic.ValueIdx Idealize.SL.Sem
open Cert.KernelIdeal.Exchange

/-- The kernel at words runs, its arguments end unchanged and every semaphore at zero. -/
theorem frame_kernel : Cert.quiescent_Kernel := fun m ρ _ => (Cert.Same.run_eq (F := Bits) _ _).mpr ((θ_run Cert.KernelIdeal.defs _ _).mono
  (fun _ h => ⟨fun c => ⟨(h.1 c).1.1, (h.1 c).1.2.1, (h.1 c).2.1, (h.1 c).2.2⟩, h.2⟩) (run_main (F := Bits) m ρ))

/-- The same over the extended reals. -/
theorem frame_ideal : Cert.quiescent_KernelIdeal := fun m ρ _ => (θ_run Cert.KernelIdeal.defs _ _).mono
  (fun _ h => ⟨fun c => ⟨(h.1 c).1.1, (h.1 c).1.2.1, (h.1 c).2.1, (h.1 c).2.2⟩, h.2⟩) (run_main (F := Ideal) m ρ)

/-- The reference runs, its arguments end unchanged; it has no semaphore. -/
theorem frame_reference : Cert.quiescent_ReferenceIdeal := fun m ρ _ => (θ_run Cert.ReferenceIdeal.defs _ _).mono
  (fun r h => ⟨fun c => (h c).2, sem_eq_zero_of_no_sems (by decide) r.2⟩) (Cert.ReferenceIdeal.Value.run (F := Ideal) m ρ)

/-- From arguments whose rows and columns are small enough, each device's result is its part of the reference's. -/
theorem algebraic : Cert.algebraic_KernelIdeal_ReferenceIdeal_pre_rows_tame_KernelIdeal := by
  intro m ρ m' ρ' hpre hagree
  refine ⟨Cert.Equation.whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ⟨?_, (h.1 c).1.1, (h.1 c).1.2.1, (h.1 c).2.1, (h.1 c).2.2⟩) (run_main (F := Ideal) m ρ)
    exact Cert.Equation.result_eq m _ _ _ _ (fun c => (hagree c).1) (fun c => (hagree c).2.1) (fun c => (hagree c).2.2.1) (fun c => (hagree c).2.2.2)
      (fun c => Cert.Product.rows_tame _ _ _ _ (hpre c).1) (fun c => Cert.Product.columns_tame _ _ _ _ (hpre c).2) c r.2 (h.1 c).1
  · exact (θ_run Cert.ReferenceIdeal.defs _ _).mono (fun r h => h 0) (Cert.ReferenceIdeal.Value.run (F := Ideal) m' ρ')

/-- Everything claimed. -/
theorem claim : Cert.Claim := ⟨Cert.Kernel.Gen.facts, Cert.KernelIdeal.Gen.facts, Cert.ReferenceIdeal.Gen.facts,
  Cert.Pre_rows_tame_KernelIdeal.Gen.facts, Cert.Pre_rows_tame_ReferenceIdeal.Gen.facts,
  frame_kernel, frame_ideal, fun m ρ _ => frame_ideal m ρ trivial, frame_reference, fun m ρ _ => frame_reference m ρ trivial, trivial, algebraic⟩

end Cert.Proof

end
